-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_0123_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_0132_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_0132_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_0213_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_0213_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_0231_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_0231_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_0312_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_0312_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_0321_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_0321_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_1023_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_1023_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_1032_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_1032_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_1203_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_1203_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_1230_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_1230_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_1302_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_1302_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_1320_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_1320_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_2013_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_2013_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_2031_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_2031_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_2103_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_2103_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_is_2130_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_2130_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_2301_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_2301_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_2310_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_2310_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_3012_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_3012_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_3021_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_3021_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_3102_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_3102_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_is_3120_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_3120_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_3201_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_3201_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_is_3210_Kernel.lean ====
abbrev S1x512x512 : Shape := ⟨3, ![1, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_is_3210_ReferenceIdeal.lean ====
abbrev S4x512x512 : Shape := ⟨3, ![4, 512, 512]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x512x512 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Kernel.lean ====
abbrev S1x512x512 : Shape := ⟨3, ![1, 512, 512]⟩
abbrev S4 : Shape := ⟨1, ![4]⟩
abbrev S4x128x512 : Shape := ⟨3, ![4, 128, 512]⟩
abbrev S1 : Shape := ⟨1, ![1]⟩
abbrev S_ : Shape := ⟨0, ![]⟩
abbrev S1x128x512 : Shape := ⟨3, ![1, 128, 512]⟩
abbrev S128x512 : Shape := ⟨2, ![128, 512]⟩

abbrev nBuf : Space → Nat
  | .hbm => 3
  | .vmem => 1
  | .smem => 1
  | _ => 0

abbrev bufTy : (tb : Table) → Fin (tcTables nBuf tb) → BufTy
  | .hbm, ⟨0, _⟩ => ⟨S1x512x512, .f32⟩
  | .hbm, ⟨1, _⟩ => ⟨S4, .i32⟩
  | .hbm, ⟨2, _⟩ => ⟨S1x512x512, .f32⟩
  | .local _ .vmem, ⟨0, _⟩ => ⟨S4x128x512, .f32⟩
  | .local _ .smem, ⟨0, _⟩ => ⟨S4, .i32⟩
  | _, _ => ⟨S1x512x512, .f32⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (d0 : Dev nD) (v5 : BitVec 32) (v8 : BitVec 32) (v11 : BitVec 32) (v14 : BitVec 32) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  v16.toNat

def k0_chk1 (d0 : Dev nD) (v5 : BitVec 32) (v8 : BitVec 32) (v11 : BitVec 32) (v14 : BitVec 32) : Prop :=
  ((k0_dev1 d0 v5 v8 v11 v14) < nD)
theorem k0_dev1_lt : ∀ (d0 : Dev nD) (v5 : BitVec 32) (v8 : BitVec 32) (v11 : BitVec 32) (v14 : BitVec 32) (k0_hw1 : k0_chk1 d0 v5 v8 v11 v14), (k0_dev1 d0 v5 v8 v11 v14) < nD := fun d0 v5 v8 v11 v14 k0_hw1 => k0_hw1

def k0_dev2 (v4 : BitVec 32) : Nat :=
  v4.toNat

def k0_dev3 (v4 : BitVec 32) : Nat :=
  v4.toNat
def k0_dev4 (v4 : BitVec 32) : Nat :=
  v4.toNat
def k0_dev5 (v4 : BitVec 32) : Nat :=
  v4.toNat

def k0_chk2 (v4 : BitVec 32) : Prop :=
  ((k0_dev2 v4) < nD) ∧
  ((k0_dev3 v4) < nD) ∧
  ((k0_dev4 v4) < nD) ∧
  ((k0_dev5 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2.1
theorem k0_dev5_lt : ∀ (v4 : BitVec 32) (k0_hw2 : k0_chk2 v4), (k0_dev5 v4) < nD := fun v4 k0_hw2 => k0_hw2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Chunks.lean ====
/-
# The four chunks of a block

A device's block of `x` is one 512 × 512 matrix, moved in four chunks of 128 rows: chunk `k` goes from rows
`128k … 128k + 127` of the block to slab `k` of the VMEM stage, and from there to the same rows of the result block
of another device. This module says, at a symbolic chunk `k`,

* the three views (`xV k` of the argument, `sV k` of the stage, `oV k` of the result) and the semaphores of the chunk;
* that the chunks partition each of the three buffers;
* what the stage holds once every chunk of a block `b` has landed (`staged b`), that the copy of chunk `k` of `b` writes
  `staged b` on slab `k`, and that the transfer of slab `k` of `staged b` writes `b` on rows `128k … 128k + 127`.
-/
module

public import proofs.«01_k».proof.Proof.Gen.Kernel
public import Idealize.ShloMosaic.Lib.Pipeline.Launch
public import Idealize.ShloMosaic.Lib.ValueIdxCoords

@[expose] public section

noncomputable section

namespace Cert.KernelProof

open Cert.Kernel Cert.Kernel.Gen
open Idealize.ShloMosaic

variable {F : FTy → Type} [FloatOps F]

/-! ## The views and semaphores of chunk `k` -/

theorem inbX (k : Fin 4) : ∀ a, (![0, 128 * k.val, 0] : Fin 3 → Nat) a + S1x128x512.size a ≤ S1x512x512.size a := by
  intro a; have := k.isLt; fin_cases a
  · exact Nat.le_refl 1
  · show 128 * k.val + 128 ≤ 512; omega
  · exact Nat.le_refl 512
theorem inbS (k : Fin 4) : ∀ a, (![k.val, 0, 0] : Fin 3 → Nat) a + S1x128x512.size a ≤ S4x128x512.size a := by
  intro a; have := k.isLt; fin_cases a
  · show k.val + 1 ≤ 4; omega
  · exact Nat.le_refl 128
  · exact Nat.le_refl 512
theorem inbQ (k : Fin 4) : ∀ a, (![k.val] : Fin 1 → Nat) a + S1.size a ≤ S4.size a := by
  intro a; have := k.isLt; fin_cases a; show k.val + 1 ≤ 4; omega

/-- Rows `128k … 128k + 127` of a block, and slab `k` of the stage. -/
abbrev rX (k : Fin 4) : Rect S1x512x512 := Rect.unit (s := S1x512x512) ![0, 128 * k.val, 0] S1x128x512.size (inbX k)
abbrev rS (k : Fin 4) : Rect S4x128x512 := Rect.unit (s := S4x128x512) ![k.val, 0, 0] S1x128x512.size (inbS k)

abbrev xV (k : Fin 4) : Memref sig .tc .hbm S128x512 .f32 :=
  ((Memref.whole main_arg0).slice (rX k) (fun _ => rfl)).squeeze S128x512 Facts₀.squeezes_S1x128x512_S128x512
abbrev oV (k : Fin 4) : Memref sig .tc .hbm S128x512 .f32 :=
  ((Memref.whole main_v1).slice (rX k) (fun _ => rfl)).squeeze S128x512 Facts₀.squeezes_S1x128x512_S128x512
abbrev sV (k : Fin 4) : Memref sig .tc .vmem S128x512 .f32 :=
  ((Memref.whole cc0_scratch0).slice (rS k) (fun _ => rfl)).squeeze S128x512 Facts₀.squeezes_S1x128x512_S128x512

/-- Semaphore `k` of an array of four. -/
abbrev nth (a : DmaSems sig S4) (k : Fin 4) : DmaSem sig :=
  ((a.slice (Rect.unit (s := S4) ![k.val] S1.size (inbQ k))).squeeze S_ Facts₀.squeezes_S1_S_).sem

abbrev copyQ (k : Fin 4) : DmaSem sig := nth cc0_scratch1 k
abbrev sendQ (k : Fin 4) : DmaSem sig := nth cc0_scratch2 k
abbrev recvQ (k : Fin 4) : DmaSem sig := nth cc0_scratch3 k

theorem copyQ_val (k : Fin 4) : (copyQ k).val = 1 + k.val := by fin_cases k <;> decide
theorem sendQ_val (k : Fin 4) : (sendQ k).val = 5 + k.val := by fin_cases k <;> decide
theorem recvQ_val (k : Fin 4) : (recvQ k).val = 9 + k.val := by fin_cases k <;> decide

/-- What one chunk's landing credits a semaphore with. -/
abbrev N : ℕ := (sV 0).view.dmaCredit
theorem N_pos : 0 < N := View.dmaCredit_pos _ (by decide)
theorem credit_s (k : Fin 4) : (sV k).view.dmaCredit = N := rfl
theorem credit_o (k : Fin 4) : (oV k).view.dmaCredit = N := rfl

/-! ## The chunks partition the buffers -/

theorem x_set (k : Fin 4) : (xV k).view.set = (rX k).set := by
  rw [show (xV k).view.set = ((View.whole main_arg0).slice (rX k)).set from View.set_reshape _ _]; exact View.set_slice_whole _ _
theorem o_set (k : Fin 4) : (oV k).view.set = (rX k).set := by
  rw [show (oV k).view.set = ((View.whole main_v1).slice (rX k)).set from View.set_reshape _ _]; exact View.set_slice_whole _ _
theorem s_set (k : Fin 4) : (sV k).view.set = (rS k).set := by
  rw [show (sV k).view.set = ((View.whole cc0_scratch0).slice (rS k)).set from View.set_reshape _ _]; exact View.set_slice_whole _ _

theorem mem_rX {k : Fin 4} {i : S1x512x512.Idx} : i ∈ (rX k).set ↔ (i 1).val / 128 = k.val := by
  rw [Rect.mem_set_unit]
  have h0 : (i 0).val < 1 := (i 0).isLt
  have h1 : (i 1).val < 512 := (i 1).isLt
  have h2 : (i 2).val < 512 := (i 2).isLt
  constructor
  · intro h
    have h' : 128 * k.val ≤ (i 1).val ∧ (i 1).val < 128 * k.val + 128 := h 1
    omega
  · intro h a
    fin_cases a
    · show 0 ≤ (i 0).val ∧ (i 0).val < 0 + 1; omega
    · show 128 * k.val ≤ (i 1).val ∧ (i 1).val < 128 * k.val + 128; omega
    · show 0 ≤ (i 2).val ∧ (i 2).val < 0 + 512; omega

theorem mem_rS {k : Fin 4} {i : S4x128x512.Idx} : i ∈ (rS k).set ↔ (i 0).val = k.val := by
  rw [Rect.mem_set_unit]
  have h1 : (i 1).val < 128 := (i 1).isLt
  have h2 : (i 2).val < 512 := (i 2).isLt
  constructor
  · intro h
    have h' : k.val ≤ (i 0).val ∧ (i 0).val < k.val + 1 := h 0
    omega
  · intro h a
    fin_cases a
    · show k.val ≤ (i 0).val ∧ (i 0).val < k.val + 1; omega
    · show 0 ≤ (i 1).val ∧ (i 1).val < 0 + 128; omega
    · show 0 ≤ (i 2).val ∧ (i 2).val < 0 + 512; omega

theorem rX_disjoint {k k' : Fin 4} (h : k ≠ k') : Disjoint (rX k).set (rX k').set :=
  Finset.disjoint_left.mpr fun i hi hi' => h (Fin.ext ((mem_rX.mp hi).symm.trans (mem_rX.mp hi')))
theorem rS_disjoint {k k' : Fin 4} (h : k ≠ k') : Disjoint (rS k).set (rS k').set :=
  Finset.disjoint_left.mpr fun i hi hi' => h (Fin.ext ((mem_rS.mp hi).symm.trans (mem_rS.mp hi')))

theorem rX_cover : (Finset.univ.biUnion fun k : Fin 4 => (rX k).set) = Finset.univ := by
  refine Finset.eq_univ_of_forall fun i => Finset.mem_biUnion.mpr ?_
  have h1 : (i 1).val < 512 := (i 1).isLt
  exact ⟨⟨(i 1).val / 128, by omega⟩, Finset.mem_univ _, mem_rX.mpr rfl⟩
theorem rS_cover : (Finset.univ.biUnion fun k : Fin 4 => (rS k).set) = Finset.univ := by
  refine Finset.eq_univ_of_forall fun i => Finset.mem_biUnion.mpr ?_
  have h0 : (i 0).val < 4 := (i 0).isLt
  exact ⟨⟨(i 0).val, h0⟩, Finset.mem_univ _, mem_rS.mpr rfl⟩

/-! ## Contents -/

/-- The stage once every chunk of block `b` has landed: slab `k`, row `r` is row `128k + r` of `b`. -/
def staged (b : (⟨S1x512x512, .f32⟩ : BufTy).Contents (Elt F)) : (⟨S4x128x512, .f32⟩ : BufTy).Contents (Elt F) := fun i =>
  b (ValueIdx.ix3 (n0 := 1) (n1 := 512) (n2 := 512) 0
    ⟨128 * (i 0).val + (i 1).val, by have h0 : (i 0).val < 4 := (i 0).isLt; have h1 : (i 1).val < 128 := (i 1).isLt; omega⟩ (i 2))

omit [FloatOps F] in
/-- Element `j` of chunk `k`: the stage holds at its place in slab `k` what the block holds at its place in the rows. -/
theorem staged_at (b : (⟨S1x512x512, .f32⟩ : BufTy).Contents (Elt F)) (k : Fin 4) (j : S1x128x512.Idx) :
    staged b ((rS k).emb j) = b ((rX k).emb j) := by
  refine congrArg b (funext fun a => Fin.ext ?_)
  have h0 : (j 0).val < 1 := (j 0).isLt
  fin_cases a
  · show 0 = 0 + 1 * (j 0).val; omega
  · show 128 * (k.val + 1 * (j 0).val) + (0 + 1 * (j 1).val) = 128 * k.val + 1 * (j 1).val; omega
  · rfl

omit [FloatOps F] in
/-- The copy of chunk `k` of `b` into the stage writes `staged b` on slab `k`. -/
theorem copy_writes (b : (⟨S1x512x512, .f32⟩ : BufTy).Contents (Elt F)) (k : Fin 4) (f : (⟨S4x128x512, .f32⟩ : BufTy).Contents (Elt F)) :
    ∀ i ∈ (sV k).view.set, (sV k).view.write (Elt F) f ((xV k).view.read (Elt F) b) Finset.univ i = staged b i := by
  intro i hi
  obtain ⟨j, -, rfl⟩ := Finset.mem_map.mp hi
  rw [View.write_emb_of_mem _ _ (Finset.mem_univ j)]
  exact (staged_at b k _).symm

omit [FloatOps F] in
/-- The transfer of slab `k` of `staged b` into a result block writes `b` on rows `128k … 128k + 127`. -/
theorem send_writes (b : (⟨S1x512x512, .f32⟩ : BufTy).Contents (Elt F)) (k : Fin 4) (f : (⟨S1x512x512, .f32⟩ : BufTy).Contents (Elt F)) :
    ∀ i ∈ (oV k).view.set, (oV k).view.write (Elt F) f ((sV k).view.read (Elt F) (staged b)) Finset.univ i = b i := by
  intro i hi
  obtain ⟨j, -, rfl⟩ := Finset.mem_map.mp hi
  rw [View.write_emb_of_mem _ _ (Finset.mem_univ j)]
  exact staged_at b k _

end Cert.KernelProof

end
-- ==== Proof.Protocol.lean ====
/-
# The protocol of the permutation

Every device sends its block to one device and receives one block. The permutation is `σ`: device `c` sends to `σ c`
and receives from `σ.symm c`. The body names the two by the table it reads (`dst`, `src`); that they are `σ c` and
`σ.symm c` is `Table.lean`'s business. Each cell below has one duty, in one round:

| cell of device `c`   | amount | who pays it                                 | who waits                      | what the wait hands over                                        |
|----------------------|--------|---------------------------------------------|--------------------------------|-----------------------------------------------------------------|
| barrier              | 1      | the signal of device `σ c` (its `src` is `c`) | `c`, before its first transfer | the result block of `σ c`, all four chunks, as at launch        |
| copy semaphore `k`   | `N`    | `c`'s own copy of chunk `k` into the stage  | `c`, before transfer `k`       | slab `k` of the stage at `staged`, chunk `k` of the argument    |
| send semaphore `k`   | `N`    | `c`'s own transfer `k`, its source read     | `c`, after all four transfers  | slab `k` of the stage at `staged`                               |
| receive semaphore `k`| `N`    | transfer `k` of device `σ.symm c`           | `c`, last                      | chunk `k` of `c`'s result block, at the block of `σ.symm c`     |

A device owes one unit to the barrier cell of `σ.symm c` and `N` to each of the four receive cells of `σ c`; it pays
the signal first and then the transfers in order. The levels: a barrier cell is at 1 (waited for while the four
transfers are owed), a receive cell at 2, everything else at 0.
-/
module

public import proofs.«01_k».proof.Proof.Chunks
public import proofs.«01_k».proof.Proof.Gen.Kernel.Launch
public import Idealize.ShloMosaic.Lib.Pipeline.Kit
public import Idealize.ShloMosaic.Lib.Tactic

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline library's rounds and the permutation's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (σ : Equiv.Perm (Dev nD))

/-! ## The cells -/

abbrev barS : Sem sig := (SemArray.scalar (sig.barrier 0 rfl) : Sems sig S_).sem

/-- The kernel's three arrays of four semaphores: copy, send, receive. -/
def chan (j : Fin 3) (k : Fin 4) : DmaSem sig := match j with | 0 => copyQ k | 1 => sendQ k | 2 => recvQ k
abbrev osem (jk : Fin 3 × Fin 4) : SemLoc sig := .dma (chan jk.1 jk.2)
/-- All the semaphores of the protocol: the barrier and the kernel's own twelve. -/
abbrev Slot : Type := Unit ⊕ (Fin 3 × Fin 4)
abbrev csem : Slot → SemLoc sig := Sum.elim (fun _ => .reg barS) osem
abbrev kcell (ck : Dev nD × Slot) : GSem nD τ sig := ((ck.1 : Thread nD τ), csem ck.2)

abbrev barCell (c : Dev nD) : GSem nD τ sig := ((c : Thread nD τ), .reg barS)
abbrev dmaCell (c : Dev nD) (q : DmaSem sig) : GSem nD τ sig := ((c : Thread nD τ), .dma q)
abbrev recvCell (c : Dev nD) (k : Fin 4) : GSem nD τ sig := dmaCell c (recvQ k)

/-! ## What is held of the buffers, chunk by chunk -/

/-- Device `c`'s block of the argument, its result block at launch. -/
abbrev blk (c : Dev nD) : (⟨S1x512x512, .f32⟩ : BufTy).Contents (Elt F) := m ((c : Thread nD τ).loc main_arg0)
abbrev res₀ (c : Dev nD) : (⟨S1x512x512, .f32⟩ : BufTy).Contents (Elt F) := m ((c : Thread nD τ).loc main_v1)

def xPts (c : Dev nD) (k : Fin 4) : sProp 𝕄 := (xV k).view.loc (c : Thread nD τ) ↦[(xV k).view.set]{fullShare} blk m c
def sPts (c : Dev nD) (k : Fin 4) (f : (⟨S4x128x512, .f32⟩ : BufTy).Contents (Elt F)) : sProp 𝕄 :=
  (sV k).view.loc (c : Thread nD τ) ↦[(sV k).view.set]{fullShare} f
def oPts (c : Dev nD) (k : Fin 4) (f : (⟨S1x512x512, .f32⟩ : BufTy).Contents (Elt F)) : sProp 𝕄 :=
  (oV k).view.loc (c : Thread nD τ) ↦[(oV k).view.set]{fullShare} f

omit [FloatOps F] in
instance xPts_storable (c : Dev nD) (k : Fin 4) : BI.Storable (upEmb : UEmb _ 𝕄) (xPts (F := F) m c k) := by unfold xPts; infer_instance
omit [FloatOps F] in
instance sPts_storable (c : Dev nD) (k : Fin 4) (f) : BI.Storable (upEmb : UEmb _ 𝕄) (sPts (F := F) c k f) := by unfold sPts; infer_instance
omit [FloatOps F] in
instance oPts_storable (c : Dev nD) (k : Fin 4) (f) : BI.Storable (upEmb : UEmb _ 𝕄) (oPts (F := F) c k f) := by unfold oPts; infer_instance

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A whole buffer is its four chunks. -/
theorem x_split (c : Dev nD) :
    ((((c : Thread nD τ).loc main_arg0) ↦{fullShare} blk m c : sProp 𝕄)) = iprop(xPts m c 0 ∗ xPts m c 1 ∗ xPts m c 2 ∗ xPts m c 3) := by
  rw [← bigSep_fin4 (fun k => xPts m c k)]
  refine Eq.trans (congrArg (fun S => ((c : Thread nD τ).loc main_arg0) ↦[S]{fullShare} blk m c) ?_)
    (pointsTo_biUnion (ℓ := (c : Thread nD τ).loc main_arg0) (q := fullShare) (f := blk m c) Finset.univ (fun k : Fin 4 => (xV k).view.set)
      (fun k _ k' _ h => by rw [x_set, x_set]; exact rX_disjoint h))
  exact ((Finset.biUnion_congr rfl fun k _ => x_set k).trans rX_cover).symm
omit [FloatOps F] in
theorem o_split (c : Dev nD) (f : (⟨S1x512x512, .f32⟩ : BufTy).Contents (Elt F)) :
    ((((c : Thread nD τ).loc main_v1) ↦{fullShare} f : sProp 𝕄)) = iprop(oPts c 0 f ∗ oPts c 1 f ∗ oPts c 2 f ∗ oPts c 3 f) := by
  rw [← bigSep_fin4 (fun k => oPts c k f)]
  refine Eq.trans (congrArg (fun S => ((c : Thread nD τ).loc main_v1) ↦[S]{fullShare} f) ?_)
    (pointsTo_biUnion (ℓ := (c : Thread nD τ).loc main_v1) (q := fullShare) (f := f) Finset.univ (fun k : Fin 4 => (oV k).view.set)
      (fun k _ k' _ h => by rw [o_set, o_set]; exact rX_disjoint h))
  exact ((Finset.biUnion_congr rfl fun k _ => o_set k).trans rX_cover).symm
omit [FloatOps F] in
theorem s_split (c : Dev nD) (f : (⟨S4x128x512, .f32⟩ : BufTy).Contents (Elt F)) :
    ((((c : Thread nD τ).loc cc0_scratch0) ↦{fullShare} f : sProp 𝕄)) = iprop(sPts c 0 f ∗ sPts c 1 f ∗ sPts c 2 f ∗ sPts c 3 f) := by
  rw [← bigSep_fin4 (fun k => sPts c k f)]
  refine Eq.trans (congrArg (fun S => ((c : Thread nD τ).loc cc0_scratch0) ↦[S]{fullShare} f) ?_)
    (pointsTo_biUnion (ℓ := (c : Thread nD τ).loc cc0_scratch0) (q := fullShare) (f := f) Finset.univ (fun k : Fin 4 => (sV k).view.set)
      (fun k _ k' _ h => by rw [s_set, s_set]; exact rS_disjoint h))
  exact ((Finset.biUnion_congr rfl fun k _ => s_set k).trans rS_cover).symm

/-! ## The schedule -/

/-- What each cell's duty hands to the device that waits. -/
def barPay (c : Dev nD) : sProp 𝕄 :=
  iprop(oPts (σ c) 0 (res₀ m (σ c)) ∗ oPts (σ c) 1 (res₀ m (σ c)) ∗ oPts (σ c) 2 (res₀ m (σ c)) ∗ oPts (σ c) 3 (res₀ m (σ c)))
def copyPay (c : Dev nD) (k : Fin 4) : sProp 𝕄 := iprop(sPts c k (staged (blk m c)) ∗ xPts m c k)
def sendPay (c : Dev nD) (k : Fin 4) : sProp 𝕄 := sPts c k (staged (blk m c))
def recvPay (c : Dev nD) (k : Fin 4) : sProp 𝕄 := oPts c k (blk m (σ.symm c))

/-- Number `n` of an array of four that begins at `b`. -/
abbrev nthOf (n b : ℕ) : Fin 4 := ⟨(n - b) % 4, Nat.mod_lt _ (by decide)⟩

def dmaPay (c : Dev nD) (q : DmaSem sig) : sProp 𝕄 :=
  if q.val < 5 then copyPay m c (nthOf q.val 1) else if q.val < 9 then sendPay m c (nthOf q.val 5) else recvPay m σ c (nthOf q.val 9)

def Rd : Rounds.Schedule (GSem nD τ sig) Unit 𝕄 where
  duties g r := if r = 0 ∧ g.1.2 = .tc then {()} else ∅
  unitless _ := False
  amount g _ _ := match g.2 with | .reg _ => 1 | .dma _ => N
  payload g _ _ := match g.2 with | .reg _ => barPay m σ g.1.1 | .dma q => dmaPay m σ g.1.1 q
  amount_pos g _ _ _ := by
    rcases g with ⟨t, _ | _⟩
    · exact Nat.one_pos
    · exact N_pos

instance Rd_payload_storable (g : GSem nD τ sig) (r : ℕ) (d : Unit) : BI.Storable (upEmb : UEmb _ 𝕄) ((Rd (F := F) m σ).payload g r d) := by
  rcases g with ⟨t, _ | q⟩
  · show BI.Storable upEmb (barPay m σ t.1)
    unfold barPay; infer_instance
  · show BI.Storable upEmb (dmaPay m σ t.1 q)
    unfold dmaPay copyPay sendPay recvPay
    (repeat' split) <;> infer_instance

section Sched
variable (c : Dev nD)

omit [FloatOps F] in
theorem duties_tc (sm : SemLoc sig) : (Rd (F := F) m σ).duties ((c : Thread nD τ), sm) 0 = {()} := by dsimp only [Rd]; exact if_pos ⟨rfl, rfl⟩
omit [FloatOps F] in
theorem mem_duties (sm : SemLoc sig) : () ∈ (Rd (F := F) m σ).duties ((c : Thread nD τ), sm) 0 := by rw [duties_tc]; exact Finset.mem_singleton_self _
omit [FloatOps F] in
theorem duties_later (g : GSem nD τ sig) : ∀ r, 1 ≤ r → (Rd (F := F) m σ).duties g r = ∅ :=
  fun r hr => by dsimp only [Rd]; exact if_neg fun h => by omega
omit [FloatOps F] in
theorem amount_bar : (Rd (F := F) m σ).amount (barCell c) 0 () = 1 := rfl
omit [FloatOps F] in
theorem amount_dma (q : DmaSem sig) : (Rd (F := F) m σ).amount (dmaCell c q) 0 () = N := rfl
omit [FloatOps F] in
theorem expect_bar : (Rd (F := F) m σ).expect (barCell c) 0 = 1 := by
  unfold Schedule.expect Schedule.amountOf; rw [duties_tc, Finset.sum_singleton, amount_bar]
omit [FloatOps F] in
theorem expect_dma (q : DmaSem sig) : (Rd (F := F) m σ).expect (dmaCell c q) 0 = N := by
  unfold Schedule.expect Schedule.amountOf; rw [duties_tc, Finset.sum_singleton, amount_dma]

omit [FloatOps F] in
theorem payload_bar : (Rd (F := F) m σ).payload (barCell c) 0 () = barPay m σ c := rfl
omit [FloatOps F] in
theorem payload_copy (k : Fin 4) : (Rd (F := F) m σ).payload (dmaCell c (copyQ k)) 0 () = copyPay m c k := by fin_cases k <;> rfl
omit [FloatOps F] in
theorem payload_send (k : Fin 4) : (Rd (F := F) m σ).payload (dmaCell c (sendQ k)) 0 () = sendPay m c k := by fin_cases k <;> rfl
omit [FloatOps F] in
theorem payload_recv (k : Fin 4) : (Rd (F := F) m σ).payload (dmaCell c (recvQ k)) 0 () = recvPay m σ c k := by fin_cases k <;> rfl

omit [FloatOps F] in
/-- A wait for the round takes the one duty's payload. -/
theorem rest_tc (sm : SemLoc sig) :
    bigSep ((Rd (F := F) m σ).duties ((c : Thread nD τ), sm) 0 \ ∅) (fun d => (Rd (F := F) m σ).payload ((c : Thread nD τ), sm) 0 d)
      = (Rd (F := F) m σ).payload ((c : Thread nD τ), sm) 0 () := by
  rw [Finset.sdiff_empty, duties_tc, bigSep_singleton]

end Sched

/-! ## What is owed, and the levels -/

/-- The transfers of the chunks `ks` to device `d`, the first of them the last summand. -/
def left (d : Dev nD) : List (Fin 4) → CellTallies nD τ sig Unit
  | [] => 0
  | k :: ks => left d ks + tallyAt (recvCell d k) () N
/-- What device `c` owes at launch: its signal and its four transfers. -/
def O₀ (c : Dev nD) : CellTallies nD τ sig Unit := left (σ c) [0, 1, 2, 3] + tallyAt (barCell (σ.symm c)) () 1

def L (g : GSem nD τ sig) : Finset Unit := if g.1.2 = .tc then {()} else ∅
def lv (g : GSem nD τ sig) (_ : Unit) : ℕ := match g.2 with | .reg _ => 1 | .dma q => if 9 ≤ q.val then 2 else 0

theorem L_of_ne (g : GSem nD τ sig) (h : g.1.2 ≠ .tc) : L g = ∅ := if_neg h
theorem mem_L (c : Dev nD) (sm : SemLoc sig) : () ∈ L ((c : Thread nD τ), sm) := by rw [L, if_pos rfl]; exact Finset.mem_singleton_self _
theorem lv_recv (c : Dev nD) (k : Fin 4) : lv (recvCell c k) () = 2 := by
  show (if 9 ≤ (recvQ k).val then 2 else 0) = 2
  rw [recvQ_val]; exact if_pos (by omega)

theorem left_pos {d : Dev nD} {ks : List (Fin 4)} {g : GSem nD τ sig} {u : Unit} (h : 0 < left d ks g u) : ∃ k, g = recvCell d k := by
  induction ks with
  | nil => exact absurd h (Nat.lt_irrefl 0)
  | cons k ks ih =>
    unfold left at h
    rw [Pi.add_apply, Finsupp.add_apply, tallyAt_apply] at h
    by_cases hg : g = recvCell d k ∧ u = ()
    · exact ⟨k, hg.1⟩
    · rw [if_neg hg, Nat.add_zero] at h; exact ih h

theorem O₀_pos {c : Dev nD} {g : GSem nD τ sig} {u : Unit} (h : 0 < O₀ σ c g u) : (∃ k, g = recvCell (σ c) k) ∨ g = barCell (σ.symm c) := by
  unfold O₀ at h
  rw [Pi.add_apply, Finsupp.add_apply, tallyAt_apply] at h
  by_cases hg : g = barCell (σ.symm c) ∧ u = ()
  · exact .inr hg.1
  · rw [if_neg hg, Nat.add_zero] at h; exact .inl (left_pos h)

omit [FloatOps F] in
/-- A wait below the receive cells, transfers owed. -/
theorem mayWait_left (c d : Dev nD) (sm : SemLoc sig) (h : lv ((c : Thread nD τ), sm) () ≤ 1) (ks : List (Fin 4)) :
    (levAts L lv : sProp 𝕄) ⊢ MayWait (c : Thread nD τ) sm () (left d ks) :=
  MayOwe.of_cut (L := L) (lev := lv) 1 (fun p hp => by rw [Finset.mem_singleton.mp hp]; exact mem_L c sm)
    (fun g u hg => by obtain ⟨k, rfl⟩ := left_pos hg; exact mem_L d _)
    (fun p hp => by rw [Finset.mem_singleton.mp hp]; exact h)
    (fun g u hg => by obtain ⟨k, rfl⟩ := left_pos hg; rw [lv_recv]; decide)

omit [FloatOps F] in
/-- A wait of the pipeline on a staging semaphore, before the body and after it. -/
theorem mayWait_stage (c : Dev nD) (q : DmaSem sig) (hq : q.val < 9) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _)
      (fun g u hg => by rcases O₀_pos σ hg with ⟨k, rfl⟩ | rfl <;> exact mem_L _ _)
      (fun p hp => by rw [Finset.mem_singleton.mp hp]; show (if 9 ≤ q.val then 2 else 0) ≤ 0; rw [if_neg (by omega)])
      (fun g u hg => by
        rcases O₀_pos σ hg with ⟨k, rfl⟩ | rfl
        · rw [lv_recv]; decide
        · exact Nat.one_pos)
  · rw [MayWait_zero]; iintro -; iempintro

end Cert.KernelProof

end
-- ==== Proof.Steps.lean ====
/-
# The body's steps, one lemma for each kind

The body does five things to each chunk — copy it into the stage, wait for the copy, send it, wait for the send, wait
for the chunk that arrives — and one handshake between the copies and the transfers. Each is one lemma here, at a
symbolic device `c` and chunk `k`, from one state of the chunk to the next (`atStart`, `atCopying`, `atStaged`, `atSending`, `atSent`, `atDone`).
-/
module

public import proofs.«01_k».proof.Proof.Protocol

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Dev nD))

abbrev 𝒱₀ : Variants := Variants.none

/-! ## What every device knows: the invariant of every cell, and that every cell is at its round -/

variable (K : Dev nD × Slot → ℕ)

def records : sProp 𝕄 :=
  iprop((bigSep Finset.univ fun ck : Dev nD × Slot => cellInv ER (Rd m σ) (K ck) (kcell ck))
    ∗ bigSep Finset.univ fun ck : Dev nD × Slot => reached ER (kcell ck) 0)

instance records_persistent : BI.Persistent (records m σ K) := by unfold records; infer_instance

theorem inv_mem (ck : Dev nD × Slot) :
    (bigSep Finset.univ fun ck : Dev nD × Slot => (cellInv ER (Rd m σ) (K ck) (kcell ck) : sProp 𝕄)) ⊢ cellInv ER (Rd m σ) (K ck) (kcell ck) :=
  bigSep_elim (Finset.mem_univ ck)
theorem reached_mem (ck : Dev nD × Slot) :
    (bigSep Finset.univ fun ck : Dev nD × Slot => (reached ER (kcell ck) 0 : sProp 𝕄)) ⊢ reached ER (kcell ck) 0 :=
  bigSep_elim (Finset.mem_univ ck)
theorem records_inv (ck : Dev nD × Slot) : records m σ K ⊢ cellInv ER (Rd m σ) (K ck) (kcell ck) := by
  unfold records
  iintro ⟨H, -⟩
  iapply (inv_mem m σ K ck); iexact H
theorem records_reached (ck : Dev nD × Slot) : records m σ K ⊢ reached ER (kcell ck) 0 := by
  unfold records
  iintro ⟨-, H⟩
  iapply (reached_mem (F := F) ck); iexact H

/-- Device `c` owes `O`, whatever it has waited for. -/
def owing (c : Dev nD) (O : CellTallies nD τ sig Unit) : sProp 𝕄 := iprop(∃ W, owes (c : Thread nD τ) O W)

/-! ## The states of a chunk -/

section States
variable (c : Dev nD) (k : Fin 4)

/-- At the start: the chunk of the argument, the slab of the stage, the positions, tokens and credit. -/
def atStart : sProp 𝕄 :=
  iprop(xPts m c k ∗ (∃ f, sPts c k f)
    ∗ atPos ER (dmaCell c (copyQ k)) 0 ∅ 0 ∗ atPos ER (dmaCell c (sendQ k)) 0 ∅ 0 ∗ atPos ER (dmaCell c (recvQ k)) 0 ∅ 0
    ∗ dutyTok ER (dmaCell c (copyQ k)) 0 () ∗ dutyTok ER (dmaCell c (sendQ k)) 0 () ∗ dutyTok ER (recvCell (σ c) k) 0 ()
    ∗ cred (tallyAt (recvCell c k) () N))
/-- its copy under way; -/
def atCopying : sProp 𝕄 :=
  iprop(cred (tallyAt (dmaCell c (copyQ k)) () N)
    ∗ atPos ER (dmaCell c (copyQ k)) 0 ∅ 0 ∗ atPos ER (dmaCell c (sendQ k)) 0 ∅ 0 ∗ atPos ER (dmaCell c (recvQ k)) 0 ∅ 0
    ∗ dutyTok ER (dmaCell c (sendQ k)) 0 () ∗ dutyTok ER (recvCell (σ c) k) 0 ()
    ∗ cred (tallyAt (recvCell c k) () N))
/-- staged; -/
def atStaged : sProp 𝕄 :=
  iprop(xPts m c k ∗ sPts c k (staged (blk m c)) ∗ semVal (dmaCell c (copyQ k)) 0
    ∗ atPos ER (dmaCell c (sendQ k)) 0 ∅ 0 ∗ atPos ER (dmaCell c (recvQ k)) 0 ∅ 0
    ∗ dutyTok ER (dmaCell c (sendQ k)) 0 () ∗ dutyTok ER (recvCell (σ c) k) 0 ()
    ∗ cred (tallyAt (recvCell c k) () N))
/-- its transfer under way; -/
def atSending : sProp 𝕄 :=
  iprop(xPts m c k ∗ cred (tallyAt (dmaCell c (sendQ k)) () N) ∗ semVal (dmaCell c (copyQ k)) 0
    ∗ atPos ER (dmaCell c (sendQ k)) 0 ∅ 0 ∗ atPos ER (dmaCell c (recvQ k)) 0 ∅ 0
    ∗ cred (tallyAt (recvCell c k) () N))
/-- sent; -/
def atSent : sProp 𝕄 :=
  iprop(xPts m c k ∗ sPts c k (staged (blk m c)) ∗ semVal (dmaCell c (copyQ k)) 0 ∗ semVal (dmaCell c (sendQ k)) 0
    ∗ atPos ER (dmaCell c (recvQ k)) 0 ∅ 0 ∗ cred (tallyAt (recvCell c k) () N))
/-- and the chunk from `σ.symm c` in its place. -/
def atDone : sProp 𝕄 :=
  iprop(xPts m c k ∗ sPts c k (staged (blk m c)) ∗ oPts c k (blk m (σ.symm c))
    ∗ semVal (dmaCell c (copyQ k)) 0 ∗ semVal (dmaCell c (sendQ k)) 0 ∗ semVal (dmaCell c (recvQ k)) 0)
end States

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable (c : Dev nD) {α : Type} {kt : PUnit → Prog (TpuEff nD τ sig (Elt F) Λ₀ .tc) α}

/-- The copy of chunk `k` into the stage. -/
theorem step_copy {Q : α → sProp 𝕄} (k : Fin 4) {hsrc : (xV k).view.WordExact} {hdst : (sV k).view.WordExact}
    {hsem : DmaTarget.Typed (nD := nD) (τ := τ) (p := .tc) .hbm (.dma (copyQ k)) (.here (sV k))} :
    iprop(records m σ K ∗ atStart m σ c k)
      ⊢ iprop((atCopying (F := F) σ c k -∗ WP c (kt ⟨⟩) Q) -∗ WP c (.op (.enqueueDma (xV k) (.here (sV k)) (.dma (copyQ k)) hsrc hdst hsem) kt) Q) := by
  unfold atStart atCopying xPts sPts
  iintro ⟨#HR, Hx, ⟨%f, Hs⟩, Hc, Hsd, Hrv, Htc, Hts, Htr, Hcr⟩ Hk
  iapply (Rounds.wp_copy_pointsTo 𝒱₀ ER (Rd m σ) (c : Thread nD τ) none (κ := K (c, .inr (0, k))) (r := 0) (d := ())
      (mem_duties m σ c (.dma (copyQ k))) () N (credit_s k) (amount_dma m σ c (copyQ k)) (fd := f) (fs := blk m c)
      (by
        rw [payload_copy]; unfold copyPay xPts sPts
        iintro ⟨Hd, Hs⟩
        isplitl [Hd]
        · iapply (Entails.of_eq (pointsTo_congr (copy_writes (blk m c) k f))); iexact Hd
        · iexact Hs)) $$ [Hx Hs Htc]
  · isplitr; · iapply (records_inv m σ K (c, .inr (0, k))); iexact HR
    isplitl [Hx]; · iexact Hx
    isplitl [Hs]; · iexact Hs
    isplitl [Htc]; · iexact Htc
    iapply (records_reached m σ K (c, .inr (0, k))); iexact HR
  iintro Hcc
  iapply Hk
  isplitl [Hcc]; · iexact Hcc
  isplitl [Hc]; · iexact Hc
  isplitl [Hsd]; · iexact Hsd
  isplitl [Hrv]; · iexact Hrv
  isplitl [Hts]; · iexact Hts
  isplitl [Htr]; · iexact Htr
  iexact Hcr

/-- A wait for one of the kernel's own cells (array `j`, number `k`), whatever is owed at the time: the wait takes the
    round, and the cell closes. -/
theorem step_wait {Q : α → sProp 𝕄} (j : Fin 3) (k : Fin 4) (O : CellTallies nD τ sig Unit) {sp sp' : Space} {s s' : Shape} {e e' : EltTy}
    {src : Memref sig .tc sp s e} {dst : Memref sig .tc sp' s' e'} {hs : src.view.WordExact} {hd : dst.view.WordExact} (hN : dst.view.dmaCredit = N)
    {P : sProp 𝕄} (hP : (Rd m σ).payload (dmaCell c (chan j k)) 0 () = P) :
    iprop(records m σ K ∗ MayWait (c : Thread nD τ) (.dma (chan j k)) () O ∗ cred (tallyAt (dmaCell c (chan j k)) () N) ∗ owing (F := F) c O ∗ atPos ER (dmaCell c (chan j k)) 0 ∅ 0)
      ⊢ iprop(((owing c O ∗ semVal (dmaCell c (chan j k)) 0 ∗ P) -∗ WP c (kt ⟨⟩) Q) -∗ WP c (.op (.waitDma2 (chan j k) src dst hs hd) kt) Q) := by
  unfold owing
  iintro ⟨#HR, HM, Hc, ⟨%W, HO⟩, Hat⟩ Hk
  iapply (Rounds.wp_wait_rest_token 𝒱₀ ER (Rd m σ) (c : Thread nD τ) none (κ := K (c, .inr (j, k)))
      (wpE_waitDma2_eq 𝒱₀ (c : Thread nD τ) none Set.univ) (Set.mem_univ _) () (O := O) (W := W) (R := 0) (m := 0) (T := ∅)
      (by rw [Nat.zero_add, expect_dma, hN])) $$ [HM Hc HO Hat]
  · isplitr; · iapply (records_inv m σ K (c, .inr (j, k))); iexact HR
    isplitl [Hc]; · rw [hN]; iexact Hc
    isplitl [HO]; · iexact HO
    isplitl [HM]; · iexact HM
    iexact Hat
  iintro ⟨HO, Hat, -, Hpay⟩
  imod (Rounds.cell_close ER (Rd m σ) (Set.mem_univ (K (c, .inr (j, k)))) (fun h => h) (R := 0 + 1) (duties_later m σ (dmaCell c (chan j k)))) $$ [Hat] with Hz
  · isplitr; · iapply (records_inv m σ K (c, .inr (j, k))); iexact HR
    iexact Hat
  iapply Hk
  isplitl [HO]; · iexists _; iexact HO
  isplitl [Hz]; · iexact Hz
  iapply (Entails.of_eq ((rest_tc m σ c (.dma (chan j k))).trans hP)); iexact Hpay

section
variable {sp sp' : Space} {s s' : Shape} {e e' : EltTy}
  {src : Memref sig .tc sp s e} {dst : Memref sig .tc sp' s' e'} {hs : src.view.WordExact} {hd : dst.view.WordExact}

/-- The wait for the copy of chunk `k`, the transfers `ks` owed. -/
theorem step_copied {Q : α → sProp 𝕄} (k : Fin 4) (ks : List (Fin 4)) (hN : dst.view.dmaCredit = N) :
    iprop(records m σ K ∗ levAts L lv ∗ owing c (left (σ c) ks) ∗ atCopying (F := F) σ c k)
      ⊢ iprop(((owing c (left (σ c) ks) ∗ atStaged m σ c k) -∗ WP c (kt ⟨⟩) Q) -∗ WP c (.op (.waitDma2 (copyQ k) src dst hs hd) kt) Q) := by
  unfold atCopying atStaged
  iintro ⟨#HR, #Hlev, HO, Hcc, Hc, Hsd, Hrv, Hts, Htr, Hcr⟩ Hk
  iapply (step_wait m σ K c 0 k (left (σ c) ks) hN (payload_copy m σ c k)) $$ [HO Hcc Hc]
  · isplitr; · iexact HR
    isplitr
    · iapply (mayWait_left c (σ c) (.dma (copyQ k)) (by show (if 9 ≤ (copyQ k).val then 2 else 0) ≤ 1; rw [copyQ_val, if_neg (by omega)]; decide) ks)
      iexact Hlev
    isplitl [Hcc]; · iexact Hcc
    isplitl [HO]; · iexact HO
    iexact Hc
  unfold copyPay
  iintro ⟨HO, Hz, Hs, Hx⟩
  iapply Hk
  isplitl [HO]; · iexact HO
  isplitl [Hx]; · iexact Hx
  isplitl [Hs]; · iexact Hs
  isplitl [Hz]; · iexact Hz
  isplitl [Hsd]; · iexact Hsd
  isplitl [Hrv]; · iexact Hrv
  isplitl [Hts]; · iexact Hts
  isplitl [Htr]; · iexact Htr
  iexact Hcr

/-- The wait for transfer `k` of this device, nothing owed. -/
theorem step_sent {Q : α → sProp 𝕄} (k : Fin 4) (hN : dst.view.dmaCredit = N) :
    iprop(records m σ K ∗ owing c 0 ∗ atSending m c k)
      ⊢ iprop(((owing c 0 ∗ atSent m c k) -∗ WP c (kt ⟨⟩) Q) -∗ WP c (.op (.waitDma2 (sendQ k) src dst hs hd) kt) Q) := by
  unfold atSending atSent
  iintro ⟨#HR, HO, Hx, Hcs, Hz, Hsd, Hrv, Hcr⟩ Hk
  iapply (step_wait m σ K c 1 k 0 hN (payload_send m σ c k)) $$ [HO Hcs Hsd]
  · isplitr; · iexact HR
    isplitr; · rw [MayWait_zero]; iempintro
    isplitl [Hcs]; · iexact Hcs
    isplitl [HO]; · iexact HO
    iexact Hsd
  unfold sendPay
  iintro ⟨HO, Hz', Hs⟩
  iapply Hk
  isplitl [HO]; · iexact HO
  isplitl [Hx]; · iexact Hx
  isplitl [Hs]; · iexact Hs
  isplitl [Hz]; · iexact Hz
  isplitl [Hz']; · iexact Hz'
  isplitl [Hrv]; · iexact Hrv
  iexact Hcr

/-- The wait for chunk `k` from `σ.symm c`, nothing owed. -/
theorem step_received {Q : α → sProp 𝕄} (k : Fin 4) (hN : dst.view.dmaCredit = N) :
    iprop(records m σ K ∗ owing c 0 ∗ atSent m c k)
      ⊢ iprop(((owing c 0 ∗ atDone m σ c k) -∗ WP c (kt ⟨⟩) Q) -∗ WP c (.op (.waitDma2 (recvQ k) src dst hs hd) kt) Q) := by
  unfold atSent atDone
  iintro ⟨#HR, HO, Hx, Hs, Hz, Hz', Hrv, Hcr⟩ Hk
  iapply (step_wait m σ K c 2 k 0 hN (payload_recv m σ c k)) $$ [HO Hcr Hrv]
  · isplitr; · iexact HR
    isplitr; · rw [MayWait_zero]; iempintro
    isplitl [Hcr]; · iexact Hcr
    isplitl [HO]; · iexact HO
    iexact Hrv
  unfold recvPay
  iintro ⟨HO, Hz'', Ho⟩
  iapply Hk
  isplitl [HO]; · iexact HO
  isplitl [Hx]; · iexact Hx
  isplitl [Hs]; · iexact Hs
  isplitl [Ho]; · iexact Ho
  isplitl [Hz]; · iexact Hz
  isplitl [Hz']; · iexact Hz'
  iexact Hz''
end

/-- Transfer `k`, to a device `n` that is `σ c`: it pays the first of what is owed, and takes the rows it writes of
    `σ c`'s result block, at any contents. -/
theorem step_send {Q : α → sProp 𝕄} (k : Fin 4) (ks : List (Fin 4)) (n : Dev nD) (hn : n = σ c) (f : (⟨S1x512x512, .f32⟩ : BufTy).Contents (Elt F))
    {hsc : (oV k : Memref sig (Dev.tc n : Thread nD τ).2.kind .hbm S128x512 .f32).view.ref.isScScratch = false}
    {hsrc : (sV k).view.WordExact} {hdst : (oV k).view.WordExact}
    {hsem : DmaTarget.Typed .vmem (.dma (recvQ k)) (.remote (Dev.tc n : Thread nD τ) (oV k) (.dma (sendQ k)) hsc)} :
    iprop(records m σ K ∗ owing c (left (σ c) (k :: ks)) ∗ oPts (σ c) k f ∗ atStaged m σ c k)
      ⊢ iprop(((owing c (left (σ c) ks) ∗ atSending m c k) -∗ WP c (kt ⟨⟩) Q)
          -∗ WP c (.op (.enqueueDma (sV k) (.remote (Dev.tc n : Thread nD τ) (oV k) (.dma (sendQ k)) hsc) (.dma (recvQ k)) hsrc hdst hsem) kt) Q) := by
  subst hn
  unfold atStaged atSending owing sPts oPts
  iintro ⟨#HR, ⟨%W, HO⟩, Ho, Hx, Hs, Hz, Hsd, Hrv, Hts, Htr, Hcr⟩ Hk
  iapply (Rounds.wp_send_pointsTo 𝒱₀ ER (Rd m σ) (c : Thread nD τ) none (κ₁ := K (c, .inr (1, k))) (κ₂ := K (σ c, .inr (2, k)))
      (r₁ := 0) (r₂ := 0) (d₁ := ()) (d₂ := ()) (fs := staged (blk m c)) (fd := f)
      (mem_duties m σ c (.dma (sendQ k))) (mem_duties m σ (σ c) (.dma (recvQ k)))
      () () N (credit_o k) (amount_dma m σ c (sendQ k)) (amount_dma m σ (σ c) (recvQ k)) (left (σ c) ks) rfl (W := W)
      (by rw [payload_send]; exact BI.Entails.refl _)
      (by
        rw [payload_recv]; unfold recvPay oPts; rw [σ.symm_apply_apply]
        exact Entails.of_eq (pointsTo_congr (send_writes (blk m c) k f)))) $$ [Hs Ho HO Hts Htr]
  · isplitr; · iapply (records_inv m σ K (c, .inr (1, k))); iexact HR
    isplitr; · iapply (records_inv m σ K (σ c, .inr (2, k))); iexact HR
    isplitl [Hs]; · iexact Hs
    isplitl [Ho]; · iexact Ho
    isplitl [HO]; · iexact HO
    isplitl [Hts]; · iexact Hts
    isplitr; · iapply (records_reached m σ K (c, .inr (1, k))); iexact HR
    isplitl [Htr]; · iexact Htr
    iapply (records_reached m σ K (σ c, .inr (2, k))); iexact HR
  iintro ⟨Hcs, HO⟩
  iapply Hk
  isplitl [HO]; · iexists W; iexact HO
  isplitl [Hx]; · iexact Hx
  isplitl [Hcs]; · iexact Hcs
  isplitl [Hz]; · iexact Hz
  isplitl [Hsd]; · iexact Hsd
  isplitl [Hrv]; · iexact Hrv
  iexact Hcr

/-- The signal to a device `n` that is `σ.symm c`, with this device's result block as at launch. -/
theorem step_signal {Q : α → sProp 𝕄} (n : Dev nD) (hn : n = σ.symm c) :
    iprop(records m σ K ∗ owing c (O₀ σ c) ∗ dutyTok ER (barCell (σ.symm c)) 0 ()
        ∗ oPts c 0 (res₀ m c) ∗ oPts c 1 (res₀ m c) ∗ oPts c 2 (res₀ m c) ∗ oPts c 3 (res₀ m c))
      ⊢ iprop((owing c (left (σ c) [0, 1, 2, 3]) -∗ WP c (kt ⟨⟩) Q) -∗ WP c (.op (.semSignal (Dev.tc n) barS (1#32 : BitVec 32).toInt) kt) Q) := by
  subst hn
  rw [show (1#32 : BitVec 32).toInt = ((1#32 : BitVec 32).toNat : Int) from rfl]
  unfold owing
  iintro ⟨#HR, ⟨%W, HO⟩, Ht, Ho⟩ Hk
  iapply (Rounds.wp_signal 𝒱₀ ER (Rd m σ) (c : Thread nD τ) none (dst := (σ.symm c : Thread nD τ)) (κ := K (σ.symm c, .inl ())) (d := ())
      (mem_duties m σ (σ.symm c) (.reg barS)) (amount_bar m σ (σ.symm c)) () (left (σ c) [0, 1, 2, 3]) rfl) $$ [HO Ht Ho]
  · isplitr; · iapply (records_inv m σ K (σ.symm c, .inl ())); iexact HR
    isplitl [HO]; · iexact HO
    isplitl [Ht]; · iexact Ht
    isplitl [Ho]
    · rw [payload_bar]; unfold barPay; rw [σ.apply_symm_apply]; iexact Ho
    iapply (records_reached m σ K (σ.symm c, .inl ())); iexact HR
  iintro HO
  iapply Hk
  iexists W; iexact HO

/-- The wait on the device's own barrier cell, the four transfers owed: `σ c` has handed over its result block. -/
theorem step_barrier {Q : α → sProp 𝕄} :
    iprop(records m σ K ∗ levAts L lv ∗ owing c (left (σ c) [0, 1, 2, 3]) ∗ cred (tallyAt (barCell c) () 1) ∗ atPos ER (barCell c) 0 ∅ 0)
      ⊢ iprop(((owing c (left (σ c) [0, 1, 2, 3]) ∗ semVal (barCell c) 0 ∗ barPay m σ c) -∗ WP c (kt ⟨⟩) Q)
          -∗ WP c (.op (.semWait barS (1#32 : BitVec 32).toInt) kt) Q) := by
  rw [show (1#32 : BitVec 32).toInt = ((1#32 : BitVec 32).toNat : Int) from rfl]
  unfold owing
  iintro ⟨#HR, #Hlev, ⟨%W, HO⟩, Hc, Hat⟩ Hk
  iapply (Rounds.wp_wait_rest_token 𝒱₀ ER (Rd m σ) (c : Thread nD τ) none (κ := K (c, .inl ()))
      (wpE_semWait_eq 𝒱₀ (c : Thread nD τ) none Set.univ) (Set.mem_univ _) () (O := left (σ c) [0, 1, 2, 3]) (W := W) (R := 0) (m := 0) (T := ∅)
      (by rw [Nat.zero_add, expect_bar]; decide)) $$ [Hc HO Hat]
  · isplitr; · iapply (records_inv m σ K (c, .inl ())); iexact HR
    isplitl [Hc]; · iexact Hc
    isplitl [HO]; · iexact HO
    isplitr; · iapply (mayWait_left c (σ c) (.reg barS) (Nat.le_refl 1) [0, 1, 2, 3]); iexact Hlev
    iexact Hat
  iintro ⟨HO, Hat, -, Hpay⟩
  imod (Rounds.cell_close ER (Rd m σ) (Set.mem_univ (K (c, .inl ()))) (fun h => h) (R := 0 + 1) (duties_later m σ (barCell c))) $$ [Hat] with Hz
  · isplitr; · iapply (records_inv m σ K (c, .inl ())); iexact HR
    iexact Hat
  iapply Hk
  isplitl [HO]; · iexists _; iexact HO
  isplitl [Hz]; · iexact Hz
  iapply (Entails.of_eq ((rest_tc m σ c (.reg barS)).trans (payload_bar m σ c))); iexact Hpay

end Rules

end Cert.KernelProof

end
-- ==== Proof.Table.lean ====
/-
# The table of the permutation, and the two devices the body names by it

The kernel's second argument is a table of four words, the same on every device: word `j` says where the block of device
`j` goes. Where the words are `σ 0 … σ 3` for a permutation `σ` (`Holds m σ`), device `c`'s body reads word `c` and finds
`σ c`, the device it sends to; and the last `j` whose word is `c` is `σ.symm c`, the device it receives from.
-/
module

public import proofs.«01_k».proof.Proof.Gen.Kernel.Launch

@[expose] public section

noncomputable section

namespace Cert.KernelProof

open Cert.Kernel Cert.Kernel.Gen
open Idealize.ShloMosaic
open Idealize.ShloMosaic.TcCoe

variable {F : FTy → Type} [FloatOps F]
variable (m : (ℓ : Loc nD τ sig) → Buf (Elt F) ℓ) (σ : Equiv.Perm (Dev nD))

/-- Word `j` of a table, as an index (`0 + j`: as the body's accesses compute it). -/
def at4 (j : Dev nD) : S4.Idx := fun a => ⟨0 + j.val, by have : j.val < 4 := j.isLt; fin_cases a; show 0 + j.val < 4; omega⟩

/-- Device `c`'s table. -/
abbrev tbl (c : Dev nD) : IVec S4 32 := m ((c : Thread nD τ).loc main_arg1)

/-- Every device's table holds `σ`. -/
def Holds : Prop := ∀ c j : Dev nD, tbl m c (at4 j) = BitVec.ofNat 32 (σ j).val

/-- The table as the launch stages it. -/
def tstg (c : Dev nD) : (cc0_stg0_0 : Ref sig .tc).ty.Contents (Elt F) :=
  (win0_0.blk (0 : Fin 1)).view.read (Elt F) (m ((c : Thread nD τ).loc main_arg1))

/-- The body's loads of the staged table: of word `c` (`c` computed from the device's number), and of word `j`. -/
abbrev rOwn (c : Dev nD) : Rect S4 := Rect.unit (s := S4) (k0_off1 c) S1.size (k0_off1_inb c)
theorem inbW (j : Dev nD) : ∀ a, (![j.val] : Fin 1 → Nat) a + S1.size a ≤ S4.size a := by
  intro a; have : j.val < 4 := j.isLt; fin_cases a; show j.val + 1 ≤ 4; omega
abbrev rAt (j : Dev nD) : Rect S4 := Rect.unit (s := S4) ![j.val] S1.size (inbW j)
abbrev own (c : Dev nD) (ts : (cc0_stg0_0 : Ref sig .tc).ty.Contents (Elt F)) : BitVec 32 :=
  ((Memref.whole cc0_stg0_0).access (rOwn c) : View sig .tc _ _ _).read (Elt F) ts (Shape.Idx.first (s := S1) (numel1_S1.symm ▸ Nat.one_pos))
abbrev word (j : Dev nD) (ts : (cc0_stg0_0 : Ref sig .tc).ty.Contents (Elt F)) : BitVec 32 :=
  ((Memref.whole cc0_stg0_0).access (rAt j) : View sig .tc _ _ _).read (Elt F) ts (Shape.Idx.first (s := S1) (numel1_S1.symm ▸ Nat.one_pos))

omit [FloatOps F] in
theorem own_tstg (c : Dev nD) : own c (tstg m c) = tbl m c (at4 c) := by
  show m ((c : Thread nD τ).loc main_arg1) _ = _
  refine congrArg _ (funext fun a => Fin.ext ?_)
  fin_cases a; fin_cases c <;> rfl
omit [FloatOps F] in
theorem word_tstg (c j : Dev nD) : word j (tstg m c) = tbl m c (at4 j) := by
  show m ((c : Thread nD τ).loc main_arg1) _ = _
  refine congrArg _ (funext fun a => Fin.ext ?_)
  fin_cases a; fin_cases j <;> rfl

/-- The body's search, over any four words that are device numbers: the number found is the one place where the word is `c`. -/
theorem search : ∀ c p0 p1 p2 p3 e : Fin 4, (∀ j, ![p0, p1, p2, p3] j = c ↔ j = e) →
    k0_dev1 c (BitVec.ofNat 32 p0.val) (BitVec.ofNat 32 p1.val) (BitVec.ofNat 32 p2.val) (BitVec.ofNat 32 p3.val) = e.val := by decide +kernel

section
variable {m σ} (h : Holds m σ) (c : Dev nD)
include h

omit [FloatOps F] in
theorem Holds.own : own c (tstg m c) = BitVec.ofNat 32 (σ c).val := (own_tstg m c).trans (h c c)
omit [FloatOps F] in
theorem Holds.word (j : Dev nD) : word j (tstg m c) = BitVec.ofNat 32 (σ j).val := (word_tstg m c j).trans (h c j)

omit [FloatOps F] in
theorem Holds.own_toNat : (KernelProof.own c (tstg m c)).toNat = (σ c).val := by
  rw [h.own, BitVec.toNat_ofNat]
  have : (σ c).val < 4 := (σ c).isLt
  exact Nat.mod_eq_of_lt (by omega)
omit [FloatOps F] in
/-- Word `c` passes the body's check: it names a device; -/
theorem Holds.chk_dst : k0_chk2 (KernelProof.own c (tstg m c)) := by
  have e : (KernelProof.own c (tstg m c)).toNat < nD := by rw [h.own_toNat]; exact (σ c).isLt
  exact ⟨e, e, e, e⟩
omit [FloatOps F] in
/-- the device is `σ c`. -/
theorem Holds.dst (hw : (KernelProof.own c (tstg m c)).toNat < nD) : (⟨(KernelProof.own c (tstg m c)).toNat, hw⟩ : Dev nD) = σ c := Fin.ext (h.own_toNat c)

omit [FloatOps F] in
/-- The search's result is `σ.symm c`. -/
theorem Holds.found : k0_dev1 c (KernelProof.word 0 (tstg m c)) (KernelProof.word 1 (tstg m c)) (KernelProof.word 2 (tstg m c)) (KernelProof.word 3 (tstg m c)) = (σ.symm c).val := by
  rw [h.word, h.word, h.word, h.word]
  refine search c (σ 0) (σ 1) (σ 2) (σ 3) (σ.symm c) fun j => ?_
  rw [show (![σ 0, σ 1, σ 2, σ 3] : Fin 4 → Fin 4) j = σ j by fin_cases j <;> rfl]
  exact σ.apply_eq_iff_eq_symm_apply
omit [FloatOps F] in
theorem Holds.chk_src : k0_chk1 c (KernelProof.word 0 (tstg m c)) (KernelProof.word 1 (tstg m c)) (KernelProof.word 2 (tstg m c)) (KernelProof.word 3 (tstg m c)) := by
  show _ < nD; rw [h.found]; exact (σ.symm c).isLt
omit [FloatOps F] in
theorem Holds.src (hw : k0_dev1 c (KernelProof.word 0 (tstg m c)) (KernelProof.word 1 (tstg m c)) (KernelProof.word 2 (tstg m c)) (KernelProof.word 3 (tstg m c)) < nD) :
    (⟨k0_dev1 c (KernelProof.word 0 (tstg m c)) (KernelProof.word 1 (tstg m c)) (KernelProof.word 2 (tstg m c)) (KernelProof.word 3 (tstg m c)), hw⟩ : Dev nD) = σ.symm c :=
  Fin.ext (h.found c)
end

end Cert.KernelProof

end
-- ==== Proof.Body.lean ====
/-
# The body, run once at a symbolic device

From the start of the four chunks to their end, one step lemma per effect in program order, under the hypothesis that
the table holds a permutation.
-/
module

public import proofs.«01_k».proof.Proof.Gen.Kernel.Skeleton
public import proofs.«01_k».proof.Proof.Steps
public import proofs.«01_k».proof.Proof.Table
public import Idealize.ShloMosaic.Lib.Scf

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Dev nD))

/-- What device `c`'s body starts from, at some names of the cells' invariants. -/
def begins (c : Dev nD) (K : Dev nD × Slot → ℕ) : sProp 𝕄 :=
  iprop(records m σ K ∗ levAts L lv
    ∗ atPos ER (barCell c) 0 ∅ 0 ∗ dutyTok ER (barCell (σ.symm c)) 0 () ∗ cred (tallyAt (barCell c) () 1)
    ∗ (((c : Thread nD τ).loc main_v1) ↦{fullShare} res₀ m c)
    ∗ atStart m σ c 0 ∗ atStart m σ c 1 ∗ atStart m σ c 2 ∗ atStart m σ c 3)
/-- What it ends with. -/
def ends (c : Dev nD) : sProp 𝕄 :=
  iprop(semVal (barCell c) 0 ∗ atDone m σ c 0 ∗ atDone m σ c 1 ∗ atDone m σ c 2 ∗ atDone m σ c 3)

/-! ## The pipeline's proof data: one point, one window, the table -/

def dats (_ : Fin 1) (c : Dev nD) : Dat τ (Elt F) Unit ℕ UU ℕ cfg0 c where
  A w := m ((cfg0.win w).arr.view.loc (c : Thread nD τ))
  after w _ := match w with
    | ⟨0, _⟩ => tstg m c
  Φ t := match t with
    | ⟨0, _⟩ => iprop(∃ K, begins m σ c K)
    | ⟨_ + 1, _⟩ => ends m σ c
  q _ := fullShare
  owed t := match t with
    | ⟨0, _⟩ => O₀ σ c
    | ⟨_ + 1, _⟩ => 0

theorem fetch_0 (t : Fin cfg0.N) : (cfg0.win (0 : Fin 1)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev tM : Memref sig .tc .smem S4 .i32 := Memref.whole cc0_stg0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) (K : Dev nD × Slot → ℕ) : sProp 𝕄 :=
  iprop(begins m σ c K ∗ (dats m σ 0 c).owesAt () t0_0.castSucc ∗ (∃ d, stg c cc0_stg0_0 ((dats m σ 0 c).before (0 : Fin 1) t0_0 d)))
def bodyPost (c : Dev nD) : sProp 𝕄 :=
  iprop(ends m σ c ∗ (dats m σ 0 c).owesAt () t0_0.succ ∗ stg c cc0_stg0_0 (tstg m c))

set_option maxHeartbeats 4000000 in
theorem sound_body (h : Holds m σ) (c : Dev nD) (K : Dev nD × Slot → ℕ) (Kt : PUnit → sProp 𝕄) :
    iprop(bodyPre m σ c K ∗ (bodyPost m σ c -∗ Kt ⟨⟩))
      ⊢ WP c (cc0_body (Memref.whole main_arg0) (Memref.isWhole_whole _) tM (Memref.isWhole_whole _) (Memref.whole main_v1) (Memref.isWhole_whole _)
            (Memref.whole cc0_scratch0) (Memref.isWhole_whole _) cc0_scratch1 cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, smemLoad, smemLoadElt, Prog.lift, Prog.bind_op, Prog.bind_ret, Prog.pure_eq_ret, Prog.bind_assoc, wp_deviceId]
  unfold bodyPre begins
  iintro ⟨⟨⟨#HR, #Hlev, HatB, HtB, HcB, Hv, H0, H1, H2, H3⟩, Ho, ⟨%d0, %g0, %hg0, Ht⟩⟩, Hk⟩
  have ht : g0 = tstg m c := by rw [hg0]; unfold Dat.before; rw [if_pos (fetch_0 t0_0)]; rfl
  subst ht
  unfold Dat.owesAt Pipeline.owesWithin
  icases Ho with ⟨%W, %hW, HO⟩
  rw [show (dats m σ 0 c).owed t0_0.castSucc = O₀ σ c from rfl]
  ihave HO := (show owes (c : Thread nD τ) (O₀ σ c) W ⊢ owing (F := F) c (O₀ σ c) from by unfold owing; iintro H; iexists W; iexact H) $$ HO
  -- the table: word `c`, and the search
  iapply (wp_load_rect 𝒱₀ (c : Thread nD τ) none Set.univ (m := tM) (r := rOwn c) (Finset.subset_univ _)) $$ Ht; iintro Ht
  simp only [wp_assume_of _ _ _ _ (d := k0_chk2.dec _) (h.chk_dst c)]
  iapply (wp_load_rect 𝒱₀ (c : Thread nD τ) none Set.univ (m := tM) (r := rAt 0) (Finset.subset_univ _)) $$ Ht; iintro Ht
  iapply (wp_load_rect 𝒱₀ (c : Thread nD τ) none Set.univ (m := tM) (r := rAt 1) (Finset.subset_univ _)) $$ Ht; iintro Ht
  iapply (wp_load_rect 𝒱₀ (c : Thread nD τ) none Set.univ (m := tM) (r := rAt 2) (Finset.subset_univ _)) $$ Ht; iintro Ht
  iapply (wp_load_rect 𝒱₀ (c : Thread nD τ) none Set.univ (m := tM) (r := rAt 3) (Finset.subset_univ _)) $$ Ht; iintro Ht
  simp only [wp_assume_of _ _ _ _ (d := k0_chk1.dec _ _ _ _ _) (h.chk_src c)]
  -- the four copies
  iapply (step_copy m σ K c 0) $$ [H0]
  · isplitr; · iexact HR
    iexact H0
  iintro H0
  iapply (step_copy m σ K c 1) $$ [H1]
  · isplitr; · iexact HR
    iexact H1
  iintro H1
  iapply (step_copy m σ K c 2) $$ [H2]
  · isplitr; · iexact HR
    iexact H2
  iintro H2
  iapply (step_copy m σ K c 3) $$ [H3]
  · isplitr; · iexact HR
    iexact H3
  iintro H3
  -- the handshake
  ihave Hv := (Entails.of_eq (o_split (F := F) c (res₀ m c))) $$ Hv
  iapply (step_signal m σ K c _ (h.src c _)) $$ [HO HtB Hv]
  · isplitr; · iexact HR
    isplitl [HO]; · iexact HO
    isplitl [HtB]; · iexact HtB
    iexact Hv
  iintro HO
  iapply (step_barrier m σ K c) $$ [HO HcB HatB]
  · isplitr; · iexact HR
    isplitr; · iexact Hlev
    isplitl [HO]; · iexact HO
    isplitl [HcB]; · iexact HcB
    iexact HatB
  unfold barPay
  iintro ⟨HO, HzB, Hw0, Hw1, Hw2, Hw3⟩
  -- each chunk: its copy's end, its transfer's start
  iapply (step_copied m σ K c 0 [0, 1, 2, 3] (credit_s 0)) $$ [HO H0]
  · isplitr; · iexact HR
    isplitr; · iexact Hlev
    isplitl [HO] <;> iassumption
  iintro ⟨HO, H0⟩
  iapply (step_send m σ K c 0 [1, 2, 3] _ (h.dst c _) (res₀ m (σ c))) $$ [HO Hw0 H0]
  · isplitr; · iexact HR
    isplitl [HO]; · iexact HO
    isplitl [Hw0] <;> iassumption
  iintro ⟨HO, H0⟩
  iapply (step_copied m σ K c 1 [1, 2, 3] (credit_s 1)) $$ [HO H1]
  · isplitr; · iexact HR
    isplitr; · iexact Hlev
    isplitl [HO] <;> iassumption
  iintro ⟨HO, H1⟩
  iapply (step_send m σ K c 1 [2, 3] _ (h.dst c _) (res₀ m (σ c))) $$ [HO Hw1 H1]
  · isplitr; · iexact HR
    isplitl [HO]; · iexact HO
    isplitl [Hw1] <;> iassumption
  iintro ⟨HO, H1⟩
  iapply (step_copied m σ K c 2 [2, 3] (credit_s 2)) $$ [HO H2]
  · isplitr; · iexact HR
    isplitr; · iexact Hlev
    isplitl [HO] <;> iassumption
  iintro ⟨HO, H2⟩
  iapply (step_send m σ K c 2 [3] _ (h.dst c _) (res₀ m (σ c))) $$ [HO Hw2 H2]
  · isplitr; · iexact HR
    isplitl [HO]; · iexact HO
    isplitl [Hw2] <;> iassumption
  iintro ⟨HO, H2⟩
  iapply (step_copied m σ K c 3 [3] (credit_s 3)) $$ [HO H3]
  · isplitr; · iexact HR
    isplitr; · iexact Hlev
    isplitl [HO] <;> iassumption
  iintro ⟨HO, H3⟩
  iapply (step_send m σ K c 3 [] _ (h.dst c _) (res₀ m (σ c))) $$ [HO Hw3 H3]
  · isplitr; · iexact HR
    isplitl [HO]; · iexact HO
    isplitl [Hw3] <;> iassumption
  unfold left
  iintro ⟨HO, H3⟩
  -- the four transfers' ends, here
  iapply (step_sent m σ K c 0 (credit_s 0)) $$ [HO H0]
  · isplitr; · iexact HR
    isplitl [HO] <;> iassumption
  iintro ⟨HO, H0⟩
  iapply (step_sent m σ K c 1 (credit_s 1)) $$ [HO H1]
  · isplitr; · iexact HR
    isplitl [HO] <;> iassumption
  iintro ⟨HO, H1⟩
  iapply (step_sent m σ K c 2 (credit_s 2)) $$ [HO H2]
  · isplitr; · iexact HR
    isplitl [HO] <;> iassumption
  iintro ⟨HO, H2⟩
  iapply (step_sent m σ K c 3 (credit_s 3)) $$ [HO H3]
  · isplitr; · iexact HR
    isplitl [HO] <;> iassumption
  iintro ⟨HO, H3⟩
  -- and the four arrivals
  iapply (step_received m σ K c 0 (credit_o 0)) $$ [HO H0]
  · isplitr; · iexact HR
    isplitl [HO] <;> iassumption
  iintro ⟨HO, H0⟩
  iapply (step_received m σ K c 1 (credit_o 1)) $$ [HO H1]
  · isplitr; · iexact HR
    isplitl [HO] <;> iassumption
  iintro ⟨HO, H1⟩
  iapply (step_received m σ K c 2 (credit_o 2)) $$ [HO H2]
  · isplitr; · iexact HR
    isplitl [HO] <;> iassumption
  iintro ⟨HO, H2⟩
  iapply (step_received m σ K c 3 (credit_o 3)) $$ [HO H3]
  · isplitr; · iexact HR
    isplitl [HO] <;> iassumption
  iintro ⟨HO, H3⟩
  unfold WP; rw [wp_ret]; imodintro
  iapply Hk
  unfold bodyPost ends Dat.owesAt Pipeline.owesWithin owing
  rw [show (dats m σ 0 c).owed t0_0.succ = 0 from rfl]
  icases HO with ⟨%W', HO⟩
  isplitl [HzB H0 H1 H2 H3]
  · isplitl [HzB]; · iexact HzB
    isplitl [H0]; · iexact H0
    isplitl [H1]; · iexact H1
    isplitl [H2] <;> iassumption
  isplitl [HO]
  · iexists W'
    isplitr; · ipureintro; exact fun _ _ => Or.inl trivial
    iexact HO
  iexists _; isplitr; · (ipureintro; rfl)
  iexact Ht

/-- The library's body obligation on device `c`. -/
theorem body_obligation (h : Holds m σ) (c : Dev nD) : BodyObligation (dats (F := F) m σ 0 c) (defs₀ (F := F)) 𝒱₀ () Set.univ := fun t => by
  rw [fin_N0 t]
  rw [bigSep_W0, bigSep_W0]
  simp only [owns_whole_eq]
  show iprop((∃ K, begins m σ c K) ∗ (dats m σ 0 c).owesAt () t0_0.castSucc ∗ (∃ d, stg c cc0_stg0_0 ((dats m σ 0 c).before (0 : Fin 1) t0_0 d)))
    ⊢ WP c (cc0_body (Memref.whole main_arg0) (Memref.isWhole_whole _) tM (Memref.isWhole_whole _) (Memref.whole main_v1) (Memref.isWhole_whole _)
            (Memref.whole cc0_scratch0) (Memref.isWhole_whole _) cc0_scratch1 cc0_scratch2 cc0_scratch3) (fun _ => bodyPost m σ c)
  iintro ⟨⟨%K, Hb⟩, Ho, Ht⟩
  iapply (sound_body m σ h c K fun _ => bodyPost m σ c)
  unfold bodyPre
  isplitr []
  · isplitl [Hb]; · iexact Hb
    isplitl [Ho] <;> iassumption
  · iintro H; iexact H

end Cert.KernelProof

end
-- ==== Proof.Launch.lean ====
/-
# The launch: from every device's memory to every device's result

The launch mints each cell's round and duty token; the tokens are then dealt to the devices that pay (`turn`): a barrier
cell's token to the device its signal comes from, a receive cell's to the device its chunk comes from, the rest stay.
What a device is owed (one unit on its barrier cell, `N` on each of its receive cells) comes as launch credit.
-/
module

public import proofs.«01_k».proof.Proof.Body
public import Idealize.ShloMosaic.Lib.Pipeline.CollectiveSegs

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

/-! ## The cells and their tokens -/

theorem ownSemFacts : Pipeline.OwnSemFacts cfg0.spec osem := by decide

theorem csem_injective : Function.Injective csem := by decide

theorem kcell_injective : Function.Injective (kcell : Dev nD × Slot → GSem nD τ sig) := fun ⟨c, s⟩ ⟨c', s'⟩ h =>
  Prod.ext (show c = c' from congrArg (fun g : GSem nD τ sig => g.1.1) h) (csem_injective (congrArg Prod.snd h))

abbrev tokOf (ck : Dev nD × Slot) : GSem nD τ sig × ℕ × Unit := (kcell ck, 0, ())
theorem tokOf_injective : Function.Injective tokOf := fun a b h => kcell_injective (congrArg Prod.fst h)

def allCells : Finset (GSem nD τ sig) := Finset.univ.map ⟨kcell, kcell_injective⟩
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The device whose cell of slot `s` device `c` pays. -/
def turn : Slot → Equiv.Perm (Dev nD)
  | .inl _ => σ.symm
  | .inr (2, _) => σ
  | .inr _ => Equiv.refl _

omit [FloatOps F] in
/-- A device's thirteen slots, in four groups. -/
theorem bigSep_slots (Φ : Slot → sProp 𝕄) :
    bigSep Finset.univ Φ = iprop(Φ (.inl ()) ∗ (bigSep Finset.univ fun k => Φ (.inr (0, k))) ∗ (bigSep Finset.univ fun k => Φ (.inr (1, k)))
      ∗ (bigSep Finset.univ fun k => Φ (.inr (2, k)))) := by
  rw [BI.bigSep_univ_sum, bigSep_univ_prod, bigSep_fin3, bigSep_univ_eq_bigSepL [()] (by decide) (by decide)]
  rfl

/-- What a device starts from of the launch's making: the names, its positions, and the tokens it pays with. -/
def poss (c : Dev nD) : sProp 𝕄 := bigSep Finset.univ fun s : Slot => atPos ER (kcell (c, s)) 0 ∅ 0
def minted (c : Dev nD) : sProp 𝕄 := bigSep Finset.univ fun s : Slot => dutyTok ER (kcell (c, s)) 0 ()
def paid (c : Dev nD) : sProp 𝕄 := bigSep Finset.univ fun s : Slot => dutyTok ER (kcell (turn σ s c, s)) 0 ()

omit [FloatOps F] in
/-- Over devices, then slots, or over slots, then devices: both run over the pairs. -/
theorem by_slot (Φ : Dev nD → Slot → sProp 𝕄) :
    (bigSep Finset.univ fun c => bigSep Finset.univ fun s => Φ c s) = bigSep Finset.univ fun s => bigSep Finset.univ fun c => Φ c s := by
  rw [← bigSep_univ_prod (fun p : Dev nD × Slot => Φ p.1 p.2), ← bigSep_univ_prod (fun p : Slot × Dev nD => Φ p.2 p.1)]
  exact bigSep_univ_equiv (Equiv.prodComm Slot (Dev nD)) (fun p : Dev nD × Slot => Φ p.1 p.2)

omit [FloatOps F] in
theorem deal : (bigSep Finset.univ fun c : Dev nD => (minted c : sProp 𝕄)) = bigSep Finset.univ fun c : Dev nD => paid σ c := by
  unfold minted paid
  rw [by_slot (fun (c : Dev nD) (s : Slot) => (dutyTok ER (kcell (c, s)) 0 () : sProp 𝕄)),
    by_slot (fun (c : Dev nD) (s : Slot) => (dutyTok ER (kcell (turn σ s c, s)) 0 () : sProp 𝕄))]
  exact bigSep_congr fun s _ => bigSep_univ_equiv (turn σ s) (fun c : Dev nD => (dutyTok ER (kcell (c, s)) 0 () : sProp 𝕄))

def G (c : Dev nD) : sProp 𝕄 :=
  iprop((bigSep Finset.univ fun s : Slot => roundState ER (Rd m σ) (kcell (c, s)) 0)
    ∗ (poss c ∗ bigSep Finset.univ fun s : Slot => reached ER (kcell (c, s)) 0) ∗ minted c)
def G' (c : Dev nD) : sProp 𝕄 := iprop(∃ K, records m σ K ∗ poss c ∗ paid σ c)

omit [FloatOps F] in
theorem fund_cells : BI.own (ER (initOf allCells allToks)) ⊢ (|==> bigSep Finset.univ (G m σ) : sProp 𝕄) := by
  have hX (Φ : GSem nD τ sig → sProp 𝕄) : bigSep allCells Φ = bigSep Finset.univ fun c : Dev nD => bigSep Finset.univ fun s : Slot => Φ (kcell (c, s)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]; rfl
  have hG : bigSep Finset.univ (G m σ) = iprop((bigSep allCells fun g => roundState ER (Rd m σ) g 0)
      ∗ ((bigSep allCells fun g => atPos ER g 0 ∅ 0) ∗ bigSep allCells fun g => reached ER g 0)
      ∗ bigSep allToks fun x => (dutyTok ER x.1 x.2.1 x.2.2 : sProp 𝕄)) := by
    rw [hX, hX, hX, hT]; unfold G poss; simp only [bigSep_sep']
  iintro HX
  imod (Rounds.fund ER (Rd m σ) allCells allToks) $$ HX with ⟨Hst, Hr, Hat, Htok⟩
  imodintro
  iapply (Entails.of_eq hG.symm)
  isplitl [Hst]; · iexact Hst
  isplitl [Hat Hr]
  · isplitl [Hat] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k => semVal (dmaCell c (copyQ k)) 0) ∗ (bigSep Finset.univ fun k => semVal (dmaCell c (sendQ k)) 0)
        ∗ (bigSep Finset.univ fun k => semVal (dmaCell c (recvQ k)) 0)) := by
  unfold Pipeline.ownSems0
  rw [bigSep_univ_prod, bigSep_fin3]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((bigSep Finset.univ fun s => iprop(∃ κ : ℕ, cellInv ER (Rd m σ) κ (kcell (c, s))))
          ∗ (poss c ∗ bigSep Finset.univ fun s : Slot => reached ER (kcell (c, s)) 0) ∗ minted c) := by
  have hv : iprop(Pipeline.ownSems0 (Ix := Unit) (Name := ℕ) (U := UU) (Lvl := ℕ) (Val := Elt F) (τ := τ) osem c ∗ unscopedSems0 c)
      ⊢ (bigSep Finset.univ fun s : Slot => semVal (kcell (c, s)) 0 : sProp 𝕄) := by
    rw [ownSems0_eq, unscopedSems0_eq, bigSep_slots]
    iintro ⟨H, HB⟩
    isplitl [HB]; · iexact HB
    iexact H
  unfold G
  iintro ⟨Hos, Hus, Hst, Hat, Htok⟩
  ihave Hv := hv $$ [Hos Hus]
  · isplitl [Hos] <;> iassumption
  imod (show iprop((bigSep Finset.univ fun s : Slot => semVal (kcell (c, s)) 0) ∗ bigSep Finset.univ fun s : Slot => roundState ER (Rd m σ) (kcell (c, s)) 0)
      ⊢ (|={Set.univ}=> bigSep Finset.univ fun s => iprop(∃ κ : ℕ, cellInv ER (Rd m σ) κ (kcell (c, s))) : sProp 𝕄) from by
        rw [← bigSep_sep']
        exact (bigSep_mono fun s _ => (Rounds.body_intro ER (Rd m σ) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent assertion beside each member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun s => iprop(∃ κ : ℕ, cellInv ER (Rd m σ) κ (kcell (c, s))))
          ∗ (poss c ∗ bigSep Finset.univ fun s : Slot => reached ER (kcell (c, s)) 0) ∗ minted c) : sProp 𝕄)
      ⊢ bigSep Finset.univ (G' m σ) := by
  rw [bigSep_sep', bigSep_sep', bigSep_sep', deal σ,
    ← bigSep_univ_prod (fun ck : Dev nD × Slot => iprop(∃ κ : ℕ, cellInv ER (Rd m σ) κ (kcell ck))),
    ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (Rd m σ) κ (kcell ck) : sProp 𝕄))) $$ HI
  icases HK with ⟨%K, #HI⟩
  iapply (bigSep_beside (R := records m σ K) (Φ := fun c => iprop(poss c ∗ paid σ c)) fun c _ => show _ ⊢ G' m σ c from by
    unfold G'; iintro ⟨H1, H2⟩; iexists K; isplitl [H1] <;> iassumption)
  isplitr
  · unfold records; isplitl; · iexact HI
    iexact HR
  · rw [bigSep_sep']; isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m σ c) : sProp 𝕄)
    ⊢ |={Set.univ}=> bigSep Finset.univ (G' m σ) :=
  ((bigSep_mono fun c _ => core_alloc m σ c).trans (bigSep_fupd _ _)).trans (BI.fupd_mono (regroup m σ))

/-! ## The launch credit -/

theorem recv_injective {c d : Dev nD} {k k' : Fin 4} (h : recvCell c k = recvCell d k') : c = d ∧ k = k' := by
  have h1 : ((c, .inr (2, k)) : Dev nD × Slot) = (d, .inr (2, k')) := kcell_injective h
  have h2 := (Prod.ext_iff.mp h1).2
  exact ⟨(Prod.ext_iff.mp h1).1, (Prod.ext_iff.mp (Sum.inr.inj h2)).2⟩
theorem recv_ne_bar {c d : Dev nD} {k : Fin 4} : recvCell c k ≠ barCell d := fun h => by
  have h1 : ((c, .inr (2, k)) : Dev nD × Slot) = (d, .inl ()) := kcell_injective h
  cases (Prod.ext_iff.mp h1).2

theorem left_recv (d c : Dev nD) (k : Fin 4) (ks : List (Fin 4)) : left d ks (recvCell c k) () = if c = d then ks.count k * N else 0 := by
  induction ks with
  | nil => unfold left; rw [List.count_nil, Nat.zero_mul, ite_self]; rfl
  | cons k' ks ih =>
    unfold left
    rw [Pi.add_apply, Finsupp.add_apply, ih, tallyAt_apply, List.count_cons]
    by_cases hc : c = d
    · subst hc
      rw [if_pos rfl, if_pos rfl]
      by_cases hk : k' = k
      · subst hk; rw [if_pos ⟨rfl, rfl⟩, beq_self_eq_true, if_pos rfl, Nat.add_mul, Nat.one_mul]
      · rw [if_neg (fun h => hk (recv_injective h.1).2.symm), show (k' == k) = false from beq_eq_false_iff_ne.mpr hk, if_neg Bool.false_ne_true, Nat.add_zero, Nat.add_zero]
    · rw [if_neg hc, if_neg hc, if_neg (fun h => hc (recv_injective h.1).1)]
theorem left_bar (d c : Dev nD) (ks : List (Fin 4)) : left d ks (barCell c) () = 0 := by
  induction ks with
  | nil => rfl
  | cons k' ks ih =>
    unfold left
    rw [Pi.add_apply, Finsupp.add_apply, ih, tallyAt_apply, if_neg (fun h => recv_ne_bar h.1.symm)]

theorem owed_bar (d c : Dev nD) : O₀ σ d (barCell c) () = if d = σ c then 1 else 0 := by
  unfold O₀
  rw [Pi.add_apply, Finsupp.add_apply, left_bar, tallyAt_apply, Nat.zero_add]
  refine if_congr ⟨fun h => ?_, fun h => ?_⟩ rfl rfl
  · have : c = σ.symm d := congrArg (fun g : GSem nD τ sig => g.1.1) h.1
    rw [this, σ.apply_symm_apply]
  · rw [h, σ.symm_apply_apply]; exact ⟨rfl, rfl⟩
theorem owed_recv (d c : Dev nD) (k : Fin 4) : O₀ σ d (recvCell c k) () = if d = σ.symm c then N else 0 := by
  unfold O₀
  rw [Pi.add_apply, Finsupp.add_apply, left_recv, tallyAt_apply (barCell _), if_neg (fun h => recv_ne_bar (And.left h)), Nat.add_zero,
    show ([0, 1, 2, 3] : List (Fin 4)).count k = 1 by revert k; decide, Nat.one_mul]
  refine if_congr ⟨fun h => ?_, fun h => ?_⟩ rfl rfl
  · rw [h, σ.symm_apply_apply]
  · rw [h, σ.apply_symm_apply]

theorem launch_bar (c : Dev nD) :
    tallyOn (barCell c) (launchCredit (Pipeline.owing (O₀ σ)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar σ d c,
    Finset.sum_ite_eq' Finset.univ (σ c) fun _ => 1, if_pos (Finset.mem_univ _)]
theorem launch_recv (c : Dev nD) (k : Fin 4) :
    tallyOn (recvCell c k) (launchCredit (Pipeline.owing (O₀ σ)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv σ d c k,
    Finset.sum_ite_eq' Finset.univ (σ.symm c) fun _ => N, if_pos (Finset.mem_univ _)]

/-- The slots a device is owed on. -/
abbrev owedSem : Unit ⊕ Fin 4 → SemLoc sig := Sum.elim (fun _ => .reg barS) (fun k => .dma (recvQ k))
theorem owedSem_injective : Function.Injective owedSem := by decide

omit [FloatOps F] in
theorem creds (c : Dev nD) :
    (Pipeline.launchCred (O₀ σ) c : sProp 𝕄)
      ⊢ iprop(cred (tallyAt (barCell c) () 1) ∗ bigSep Finset.univ fun k => cred (tallyAt (recvCell c k) () N)) := by
  have e : iprop(cred (tallyAt (barCell c) () 1) ∗ bigSep Finset.univ fun k => (cred (tallyAt (recvCell c k) () N) : sProp 𝕄))
      = bigSep (Finset.univ.map ⟨owedSem, owedSem_injective⟩) fun sm =>
          cred (tallyOn ((c : Thread nD τ), sm) (launchCredit (Pipeline.owing (O₀ σ)) 0 ((c : Thread nD τ), sm))) := by
    rw [bigSep_map, BI.bigSep_univ_sum, bigSep_univ_eq_bigSepL [()] (by decide) (by decide)]
    exact congrArg₂ _ (congrArg _ (launch_bar σ c).symm) (bigSep_congr fun k _ => congrArg _ (launch_recv σ c k).symm)
  rw [e]
  exact BI.bigSep_subset (Finset.subset_univ _)

/-! ## Into the body and out of it -/

/-- What device `c` brings to the body besides its scratch buffer. -/
def brings (c : Dev nD) : sProp 𝕄 :=
  iprop((∃ K, records m σ K ∗ poss c ∗ paid σ c) ∗ levAts L lv
    ∗ (cred (tallyAt (barCell c) () 1) ∗ bigSep Finset.univ fun k => cred (tallyAt (recvCell c k) () N))
    ∗ (((c : Thread nD τ).loc main_arg0) ↦{fullShare} blk m c) ∗ (((c : Thread nD τ).loc main_v1) ↦{fullShare} res₀ m c))

/-- What it takes from it besides its scratch buffer and its kernel's own semaphores. -/
def takes (c : Dev nD) : sProp 𝕄 :=
  iprop(unscopedSems0 c ∗ (((c : Thread nD τ).loc main_arg0) ↦{fullShare} blk m c)
    ∗ (((c : Thread nD τ).loc main_v1) ↦{fullShare} blk m (σ.symm c)))

theorem brings_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> iprop(brings m σ c ∗ emp) := by
  rw [Pipeline.unscopedRestP_none, unscopedRest0_eq]
  iintro ⟨⟨Hx, Hv⟩, Hlev, Hcr, -, HG⟩
  ihave Hc := (creds (F := F) σ c) $$ Hcr
  imodintro
  unfold brings G'
  isplitl
  · isplitl [HG]; · iexact HG
    isplitl [Hlev]; · iexact Hlev
    isplitl [Hc]; · iexact Hc
    isplitl [Hx] <;> iassumption
  · iempintro

omit [FloatOps F] in
/-- The four chunks' starts, gathered. -/
theorem starts (c : Dev nD) (f : (⟨S4x128x512, .f32⟩ : BufTy).Contents (Elt F)) :
    iprop((((c : Thread nD τ).loc main_arg0) ↦{fullShare} blk m c) ∗ (((c : Thread nD τ).loc cc0_scratch0) ↦{fullShare} f)
      ∗ (bigSep Finset.univ fun k => atPos ER (dmaCell c (copyQ k)) 0 ∅ 0) ∗ (bigSep Finset.univ fun k => atPos ER (dmaCell c (sendQ k)) 0 ∅ 0)
      ∗ (bigSep Finset.univ fun k => atPos ER (dmaCell c (recvQ k)) 0 ∅ 0)
      ∗ (bigSep Finset.univ fun k => dutyTok ER (dmaCell c (copyQ k)) 0 ()) ∗ (bigSep Finset.univ fun k => dutyTok ER (dmaCell c (sendQ k)) 0 ())
      ∗ (bigSep Finset.univ fun k => dutyTok ER (recvCell (σ c) k) 0 ()) ∗ (bigSep Finset.univ fun k => cred (tallyAt (recvCell c k) () N)))
      ⊢ iprop(atStart m σ c 0 ∗ atStart m σ c 1 ∗ atStart m σ c 2 ∗ atStart m σ c 3) := by
  rw [x_split, s_split, ← bigSep_fin4 (fun k => xPts m c k), ← bigSep_fin4 (fun k => sPts c k f), ← bigSep_fin4 (fun k => atStart m σ c k)]
  simp only [← bigSep_sep']
  refine bigSep_mono fun k _ => show _ ⊢ atStart m σ c k from ?_
  unfold atStart
  iintro ⟨Hx, Hs, H⟩
  isplitl [Hx]; · iexact Hx
  isplitl [Hs]; · iexists f; iexact Hs
  iexact H

omit [FloatOps F] in
/-- The four chunks' ends, gathered. -/
theorem dones (c : Dev nD) :
    iprop(atDone m σ c 0 ∗ atDone m σ c 1 ∗ atDone m σ c 2 ∗ atDone m σ c 3)
      = iprop((((c : Thread nD τ).loc main_arg0) ↦{fullShare} blk m c) ∗ (((c : Thread nD τ).loc cc0_scratch0) ↦{fullShare} staged (blk m c))
        ∗ (((c : Thread nD τ).loc main_v1) ↦{fullShare} blk m (σ.symm c))
        ∗ Pipeline.ownSems0 (Ix := Unit) (Name := ℕ) (U := UU) (Lvl := ℕ) (Val := Elt F) (τ := τ) osem c) := by
  rw [x_split, s_split, o_split, ownSems0_eq, ← bigSep_fin4 (fun k => xPts m c k), ← bigSep_fin4 (fun k => sPts c k (staged (blk m c))),
    ← bigSep_fin4 (fun k => oPts c k (blk m (σ.symm c))), ← bigSep_fin4 (fun k => atDone m σ c k)]
  unfold atDone
  simp only [bigSep_sep']

theorem body_in (c : Dev nD) :
    iprop(brings m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = iprop(∃ K, begins m σ c K) from rfl, scopedRest0_eq]
  unfold brings poss paid begins
  simp only [bigSep_slots]
  iintro ⟨⟨⟨%K, #HR, ⟨HaB, HaC, HaS, HaR⟩, ⟨HtB, HtC, HtS, HtR⟩⟩, #Hlev, ⟨HcB, HcR⟩, Hx, Hv⟩, -, ⟨%f, Hs⟩⟩
  iexists K
  isplitr; · iexact HR
  isplitr; · iexact Hlev
  isplitl [HaB]; · iexact HaB
  isplitl [HtB]; · iexact HtB
  isplitl [HcB]; · iexact HcB
  isplitl [Hv]; · iexact Hv
  iapply (starts m σ c f)
  isplitl [Hx]; · iexact Hx
  isplitl [Hs]; · iexact Hs
  isplitl [HaC]; · iexact HaC
  isplitl [HaS]; · iexact HaS
  isplitl [HaR]; · iexact HaR
  isplitl [HtC]; · iexact HtC
  isplitl [HtS]; · iexact HtS
  isplitl [HtR]; · iexact HtR
  iexact HcR

theorem body_out (c : Dev nD) :
    (dats m σ 0 c).Φ (Fin.last cfg0.N) ⊢ iprop(takes m σ c ∗ Pipeline.ownSems0 osem c ∗ Pipeline.scopedRest cfg0.spec c) := by
  rw [show (dats m σ 0 c).Φ (Fin.last cfg0.N) = ends m σ c from rfl, scopedRest0_eq]
  unfold ends takes
  rw [dones, unscopedSems0_eq]
  iintro ⟨HzB, Hx, Hs, Ho, Hz⟩
  isplitl [HzB Hx Ho]
  · isplitl [HzB]; · iexact HzB
    isplitl [Hx] <;> iassumption
  isplitl [Hz]; · iexact Hz
  iexists _; iexact Hs

theorem share_eq (c : Dev nD) (w : Fin cfg0.W) : (dats m σ 0 c).share w = fullShare := by
  unfold Dat.share; split <;> rfl

theorem waits (c : Dev nD) : (levAts L lv : sProp 𝕄) ⊢ Pipeline.cellsWaits cfgs (dats m σ) () 0 c :=
  Pipeline.cellsWaits_intro cfgs (dats m σ) () 0 c fun w s t =>
    mayWait_stage σ c _ (by fin_cases w <;> fin_cases s <;> decide) _ (by
      rcases t with ⟨_ | _, ht⟩
      · exact Or.inl rfl
      · exact Or.inr rfl)

/-! ## The run -/

abbrev s₀ : MemSt nD τ sig (Elt F) := ⟨m, fun _ => 0, ρ⟩

/-- What a device's memory holds at the end. -/
def Final (s : MemSt nD τ sig (Elt F)) : Prop :=
  ∀ c : Dev nD, s.mem ((c : Thread nD τ).loc main_v1) = blk m (σ.symm c) ∧ s.mem ((c : Thread nD τ).loc main_arg0) = blk m c
    ∧ s.mem ((c : Thread nD τ).loc main_arg1) = m ((c : Thread nD τ).loc main_arg1)

/-- What is read of one device's memory after the body. -/
abbrev Read (c : Dev nD) (s : MemSt nD τ sig (Elt F)) : Prop :=
  (∀ sm : SemLoc sig, sm.isScoped .tc = false → s.sem ((c.tc : Thread nD τ), sm) = 0)
    ∧ s.mem ((c : Thread nD τ).loc main_arg0) = blk m c ∧ s.mem ((c : Thread nD τ).loc main_v1) = blk m (σ.symm c)

set_option maxRecDepth 8000 in
/-- From any memory whose table holds `σ` on every device, at any float values, every weakly fair run of the mesh ends;
    it ends with device `c`'s result the block of device `σ⁻¹ c`, the operands as they were and every semaphore at zero. -/
theorem run_main (h : Holds m σ) :
    θ_run defs (onTc (τ := τ) (main (F := F))) (s₀ m ρ) (fun r => Final m σ r.2 ∧ r.2.sem = fun _ => 0) :=
  Pipeline.θ_run_region_owing_glob_pf (fun p => (cfgs p).toPCfg) (fun p => (cfgs p).toPCfg_adm) (dats m σ) () cellOf_inj (0 : Fin 1)
    winFacts0.to₀ ownSemFacts (Pipeline.PreFacts.none _) EP defs₀ 𝒱₀ m ρ main
    (hmain := fun _ => rfl) (hbody := body_obligation m σ h) (hne := fun w => by fin_cases w <;> exact Nat.succ_pos _)
    (harr := arr_whole0) (hstage := stage_whole0) (hshare := share_eq m σ) (hdistinct := winFacts0.arr_inj)
    (O₀ := O₀ σ) (howed₀ := fun _ => rfl) (howedN := fun _ => rfl) (L := L) (lv := lv) (hL := L_of_ne) (hwaits := waits m σ)
    (G := G m σ) (G' := G' m σ) (u₀ := u₀)
    (hu₀ := by
      unfold u₀
      iintro Hu
      ihave H := (ownU_pair _ _) $$ Hu
      icases H with ⟨HP, HX⟩
      imod (fund_cells m σ) $$ HX with HG
      imodintro
      isplitl [HP] <;> iassumption)
    (hglob := glob m σ) (hA := fun _ _ => rfl) (hpf := fun _ k => k.elim0)
    (X := brings m σ) (Y := takes m σ) (Z := fun _ => iprop(emp))
    (hX := brings_intro m ρ σ) (hin := body_in m σ) (hout := body_out m σ)
    (QY := Read m σ)
    (hY := fun c s' => by
      unfold takes
      iintro ⟨⟨Hu, Hx, Hv⟩, -, HSI⟩
      icombine HSI Hx gives %hx
      icombine HSI Hv gives %hv
      imod (Pipeline.unscopedSems0_read (X := unscopedSems0 c) (c := c) fupd_intro s') $$ [Hu HSI] with ⟨%hu, HSI⟩
      · isplitl [Hu] <;> iassumption
      imodintro
      isplitr
      · ipureintro; exact ⟨hu, Buf.eq_of_forall_mem_univ hx, Buf.eq_of_forall_mem_univ hv⟩
      · iexact HSI)
    (hQ := fun _ h hs => ⟨fun c => ⟨(h c).2.2.2.2, (h c).2.2.2.1, ((h c).1 (0 : Fin 1)).trans ((dats m σ 0 c).arrAt_in (0 : Fin 1) rfl _)⟩,
      sem_eq_zero hs fun c => (h c).2.2.1⟩)

end Cert.KernelProof

end
-- ==== Proof.Ideal.lean ====
/-
# The run over the extended reals

The program printed for the ideal instance has the text of the kernel itself: nothing of it was rewritten. Its body, its
definitions and its main are those of the kernel, so the kernel's run, which holds for floats of any kind, is its run.
-/
module

public import proofs.«01_k».proof.Proof.Launch
public import proofs.«01_k».proof.Proof.Gen.KernelIdeal.Launch
public import Idealize.ShloMosaic.PureOps.Ideal

@[expose] public section

noncomputable section

namespace Cert.KernelProof

open Idealize.ShloMosaic
open Idealize.ShloMosaic.TcCoe Idealize.SL.Sem
open Cert.KernelIdeal Cert.KernelIdeal.Gen

variable {F : FTy → Type} [FloatOps F]

theorem defs₀_same : Cert.KernelIdeal.defs₀ (F := F) = Cert.Kernel.defs₀ (F := F) := by
  unfold Cert.KernelIdeal.defs₀ Cert.Kernel.defs₀
  refine congrArg Defs.onTc (funext fun l => funext fun a => ?_)
  match l, a with
  | 0, (t, s) => exact rfl
  | ⟨_ + 1, h⟩, _ => exact absurd h (Nat.not_lt.2 (Nat.le_add_left _ _))

theorem defs_same : Cert.KernelIdeal.defs (F := F) = Cert.Kernel.defs (F := F) := congrArg (Pipeline.defs _) defs₀_same

set_option maxRecDepth 20000 in
/-- The kernel's run, of the program printed for the ideal instance. -/
theorem run_main_ideal (m : (ℓ : Loc nD τ sig) → Buf (Elt F) ℓ) (ρ : Dev nD → PrngReg) (σ : Equiv.Perm (Dev nD))
    (h : Holds m σ) : θ_run Cert.KernelIdeal.defs (onTc (τ := τ) (Cert.KernelIdeal.main (F := F))) ⟨m, fun _ => 0, ρ⟩
      (fun r => Final m σ r.2 ∧ r.2.sem = fun _ => 0) := by
  rw [defs_same]
  exact run_main m ρ σ h

end Cert.KernelProof

end
-- ==== Proof.Reference.lean ====
/-
# What the reference computes

The reference sorts the table `σ 0 … σ 3` together with the numbers `0 … 3`; the numbers come out as `σ.symm 0 … σ.symm 3`,
none of them is negative, and the gather takes row `σ.symm i` of the array to row `i` of the result. Cut into the four
devices' blocks, block `c` of the result is block `σ.symm c` of the array.
-/
module

public import proofs.«01_k».proof.Proof.Gen.ReferenceIdeal.Run
public import proofs.«01_k».proof.Proof.Table

@[expose] public section

noncomputable section

namespace Cert.KernelProof

open Cert.ReferenceIdeal Cert.ReferenceIdeal.Gen
open Idealize.ShloMosaic
open Idealize.ShloMosaic.TcCoe Idealize.SL.Sem

variable {F : FTy → Type} [FloatOps F]

/-- The order that sorts four different words below four is the inverse of what they list. -/
theorem sorted_inj : ∀ f : Fin 4 → Fin 4, (∀ i j, f i = f j → i = j) → ∀ i : Fin 4,
    f (sortedFrom (fun k k' : Fin 4 => IntOp.cmpi .slt (BitVec.ofNat 32 (f k).val) (BitVec.ofNat 32 (f k').val) == 1#1) i) = i := by
  decide +kernel

theorem sorted_perm (σ : Equiv.Perm (Fin 4)) (i : Fin 4) :
    sortedFrom (fun k k' : Fin 4 => IntOp.cmpi .slt (BitVec.ofNat 32 (σ k).val) (BitVec.ofNat 32 (σ k').val) == 1#1) i = σ.symm i :=
  (σ.symm_apply_eq.2 (sorted_inj σ (fun _ _ h => σ.injective h) i).symm).symm

/-- The sorted numbers. -/
abbrev order (T : IVec S4 32) : IVec S4 32 := (Host.sort2 S4 0 comparator_i32_i32_d0 T (iotaInDim S4 32 0)).2

theorem order_eq (σ : Equiv.Perm (Fin 4)) (T : IVec S4 32) (hT : ∀ j : Fin 4, T (at4 j) = BitVec.ofNat 32 (σ j).val) (j : S4.Idx) :
    order T j = BitVec.ofNat 32 (σ.symm (j 0)).val := by
  have hx : ∀ k : Fin 4, T (j.along (s := S4) 0 k) = BitVec.ofNat 32 (σ k).val := fun k => by
    rw [← hT k]
    refine congrArg T (funext fun a => ?_)
    have ha : a = 0 := Subsingleton.elim (α := Fin 1) _ _
    subst ha
    exact (Function.update_self ..).trans (Fin.ext (Nat.zero_add _).symm)
  have hs := sorted_perm σ (j 0)
  simp only [← hx] at hs
  rw [← hs]
  unfold order Host.sort2
  rw [dif_pos (by decide)]
  exact congrArg (fun k : Fin 4 => BitVec.ofNat 32 k.val) (Function.update_self ..)

/-- The row numbers the gather reads: a negative one would be counted from the end. -/
abbrev rows (S : IVec S4 32) : IVec S4x1 32 :=
  broadcastInDim S4x1 ![0] bcast_S4_S4x1_0
    (select (cmpi .slt S (broadcastInDim S4 ![] bcast_S_S4 (constantI S_ 32 0#32)))
      (addi S (broadcastInDim S4 ![] bcast_S_S4 (constantI S_ 32 4#32))) S)

theorem row_word : ∀ k : Fin 4,
    Scalar.select (IntOp.cmpi .slt (BitVec.ofNat 32 k.val) 0#32) (IntOp.addi (BitVec.ofNat 32 k.val) 4#32) (BitVec.ofNat 32 k.val)
      = BitVec.ofNat 32 k.val := by decide
theorem row_start : ∀ k : Fin 4, min (BitVec.ofNat 32 k.val).toInt.toNat (4 - 1) = k.val := by decide

theorem rows_eq (S : IVec S4 32) (f : Fin 4 → Fin 4) (hS : ∀ j : S4.Idx, S j = BitVec.ofNat 32 (f (j 0)).val) (j : S4x1.Idx) :
    rows S j = BitVec.ofNat 32 (f (j 0)).val := by
  have hw : rows S j = BitVec.ofNat 32 (f ((j 0 : Fin 4))).val := by
    show Scalar.select (IntOp.cmpi .slt (S _) 0#32) (IntOp.addi (S _) 4#32) (S _) = _
    rw [hS]
    exact row_word _
  exact hw

abbrev gd := gather_S4x512x512_S4x1_S4x512x512_12_0_n_n_0_1_1512512

/-- Row `i` of the result is row `f i` of the array. -/
theorem gather_eq {α : Type} (x : S4x512x512.Idx → α) (I : IVec S4x1 32) (f : Fin 4 → Fin 4)
    (hI : ∀ j : S4x1.Idx, I j = BitVec.ofNat 32 (f (j 0)).val) (j : S4x512x512.Idx) :
    Host.gather gd x I j = x (fun a => if h : a = 0 then h ▸ (f (j 0) : Fin 4) else j a) := by
  show x (gd.operandIdx j I) = _
  refine congrArg x (funext fun a => Fin.ext ?_)
  show gd.start j I a + gd.batchCoord j a + gd.offCoord j a = _
  fin_cases a
  · show min (I _).toInt.toNat (4 - 1) + 0 + 0 = (f (j 0)).val
    rw [hI, row_start]
    rfl
  · show 0 + 0 + (j 1).val = (j 1).val
    omega
  · show 0 + 0 + (j 2).val = (j 2).val
    omega

/-- The reference's result from its array and its table. -/
abbrev result {α : Type} (x : S4x512x512.Idx → α) (T : IVec S4 32) : S4x512x512.Idx → α := Host.gather gd x (rows (order T))

/-- Block `c` of the result is block `σ.symm c` of the array. -/
theorem block_result {α : Type} (σ : Equiv.Perm (Fin 4)) (x : S4x512x512.Idx → α) (T : IVec S4 32)
    (hT : ∀ j : Fin 4, T (at4 j) = BitVec.ofNat 32 (σ j).val) (c : Fin 4) :
    Layout.block ⟨3, ![1, 512, 512]⟩ ⟨3, ![4, 512, 512]⟩ 0 4 c (result x T)
      = Layout.block ⟨3, ![1, 512, 512]⟩ ⟨3, ![4, 512, 512]⟩ 0 4 (σ.symm c) x := by
  funext i
  refine (gather_eq x _ σ.symm (rows_eq _ σ.symm (order_eq σ T hT)) _).trans (congrArg x (funext fun a => Fin.ext ?_))
  have h0 : (i 0).val = 0 := Nat.lt_one_iff.1 (i 0).isLt
  fin_cases a
  · show (σ.symm _).val = (σ.symm c).val * 1 + (i 0).val
    rw [h0, Nat.mul_one, Nat.add_zero]
    refine congrArg (fun k : Fin 4 => (σ.symm k).val) (Fin.ext ?_)
    show c.val * 1 + (i 0).val = c.val
    omega
  · rfl
  · rfl

/-- The reference has no semaphore. -/
theorem no_sem (s : MemSt nD τ sig (Elt F)) : s.sem = fun _ => 0 :=
  funext fun ⟨_, sm⟩ => by
    cases sm with
    | reg a => exact Fin.elim0 a
    | dma a => exact Fin.elim0 a

/-- The reference's run. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.KernelProof

end
-- ==== Proof.Precondition.lean ====
/-
# What a precondition says of a table

Each precondition compares the four words of the table with four numbers and joins the comparisons. Where it holds the
words are the numbers, and where the numbers are `0 … 3` in some order the table holds a permutation.
-/
module

public import proofs.«01_k».proof.Proof.Table

@[expose] public section

noncomputable section

namespace Cert.KernelProof

open Cert.Kernel Cert.Kernel.Gen
open Idealize.ShloMosaic
open Idealize.ShloMosaic.TcCoe

variable {F : FTy → Type} [FloatOps F]

theorem slices (k : Fin 4) : S4.Slices ![k.val] S1 := by revert k; decide
theorem casts : S1.ShapeCasts (⟨0, ![]⟩ : Shape) := by decide

/-- Word `k` of the table against the number `a`. -/
abbrev wordIs (T : IVec S4 32) (k : Fin 4) (a : BitVec 32) : IVec (⟨0, ![]⟩ : Shape) 1 :=
  cmpi .eq (shapeCast (⟨0, ![]⟩ : Shape) (extractStridedSlice S1 ![k.val] T (slices k)) casts) (constantI (⟨0, ![]⟩ : Shape) 32 a)

/-- The four comparisons, joined as a precondition joins them. -/
abbrev tableIs (T : IVec S4 32) (a b c d : BitVec 32) : IVec (⟨0, ![]⟩ : Shape) 1 :=
  andi (andi (andi (wordIs T 0 a) (wordIs T 1 b)) (wordIs T 2 c)) (wordIs T 3 d)

theorem both_of_andi : ∀ p q : BitVec 1, IntOp.andi p q = 1#1 → p = 1#1 ∧ q = 1#1 := by decide

theorem eq_of_wordIs {T : IVec S4 32} {k : Fin 4} {a : BitVec 32} {i} (h : wordIs T k a i = 1#1) : T (at4 k) = a := by
  have hr : ∀ r : S1.Idx, extractStridedSlice S1 ![k.val] T (slices k) r = T (at4 k) := fun r =>
    congrArg T (funext fun x => Fin.ext (by
      have h0 : (r 0).val = 0 := Nat.lt_one_iff.1 (r 0).isLt
      fin_cases x
      show k.val + (r 0).val = 0 + k.val
      omega))
  have hv : IntOp.cmpi .eq (T (at4 k)) a = 1#1 := by
    rw [← hr]
    exact h
  by_contra hne
  rw [IntOp.cmpi, beq_false_of_ne hne] at hv
  exact absurd hv (by decide)

theorem words_of_tableIs {T : IVec S4 32} {a b c d : BitVec 32} (h : tableIs T a b c d = fun _ => 1#1) (j : Fin 4) :
    T (at4 j) = ![a, b, c, d] j := by
  obtain ⟨h, h3⟩ := both_of_andi _ _ (congrFun h (fun x => x.elim0))
  obtain ⟨h, h2⟩ := both_of_andi _ _ h
  obtain ⟨h0, h1⟩ := both_of_andi _ _ h
  fin_cases j
  · exact eq_of_wordIs h0
  · exact eq_of_wordIs h1
  · exact eq_of_wordIs h2
  · exact eq_of_wordIs h3

/-- The four numbers are `0 … 3` in some order. -/
abbrev InOrder (a b c d : BitVec 32) : Prop :=
  (∀ j, (![a, b, c, d] j).toNat < 4) ∧ ∀ i j : Fin 4, ![a, b, c, d] i = ![a, b, c, d] j → i = j

/-- The number listed at place `j`. -/
def num {a b c d : BitVec 32} (ho : InOrder a b c d) (j : Fin 4) : Fin 4 := Fin.mk (![a, b, c, d] j).toNat (ho.1 j)

theorem ofNat_num {a b c d : BitVec 32} (ho : InOrder a b c d) (j : Fin 4) : BitVec.ofNat 32 (num ho j).val = ![a, b, c, d] j := by
  refine BitVec.eq_of_toNat_eq ((BitVec.toNat_ofNat _ _).trans ?_)
  exact Nat.mod_eq_of_lt (![a, b, c, d] j).isLt

theorem num_injective {a b c d : BitVec 32} (ho : InOrder a b c d) : Function.Injective (num ho) := fun i j h =>
  ho.2 i j ((ofNat_num ho i).symm.trans ((congrArg (fun k : Fin 4 => BitVec.ofNat 32 k.val) h).trans (ofNat_num ho j)))

/-- Four such numbers list a permutation. -/
theorem exists_perm {a b c d : BitVec 32} (ho : InOrder a b c d) :
    ∃ σ : Equiv.Perm (Fin 4), ∀ j, BitVec.ofNat 32 (σ j).val = ![a, b, c, d] j :=
  ⟨Equiv.ofBijective _ (Finite.injective_iff_bijective.1 (num_injective ho)), ofNat_num ho⟩

/-- Where every device's table is the four numbers, every device's table holds one permutation. -/
theorem holds_of_tableIs (m : (ℓ : Loc nD τ sig) → Buf (Elt F) ℓ) {a b c d : BitVec 32} (ho : InOrder a b c d)
    (h : ∀ e : Dev nD, tableIs (tbl m e) a b c d = fun _ => 1#1) : ∃ σ : Equiv.Perm (Dev nD), Holds m σ := by
  obtain ⟨σ, hσ⟩ := exists_perm ho
  exact ⟨σ, fun e j => (words_of_tableIs (h e) j).trans (hσ j).symm⟩

end Cert.KernelProof

end
-- ==== Proof.Claims.lean ====
/-
# The claims, for any table that lists the devices in some order

Each takes the four numbers the precondition compares the table with, and that these are `0 … 3` in some order.
-/
module

public import proofs.«01_k».proof.Proof.Ideal
public import proofs.«01_k».proof.Proof.Reference
public import proofs.«01_k».proof.Proof.Precondition

@[expose] public section

noncomputable section

namespace Cert.KernelProof

open Idealize.ShloMosaic
open Idealize.ShloMosaic.TcCoe Idealize.SL.Sem

variable {F : FTy → Type} [FloatOps F]

/-- The kernel's frame. -/
theorem frame_kernel (m : (ℓ : Loc Cert.Kernel.nD Cert.Kernel.τ Cert.Kernel.sig) → Buf (Elt F) ℓ) (ρ : Dev Cert.Kernel.nD → PrngReg)
    {a b c d : BitVec 32} (ho : InOrder a b c d) (h : ∀ e : Dev Cert.Kernel.nD, tableIs (tbl m e) a b c d = fun _ => 1#1) :
    θ_run Cert.Kernel.defs (onTc (τ := Cert.Kernel.τ) (Cert.Kernel.main (F := F))) ⟨m, fun _ => 0, ρ⟩ (fun r =>
      (∀ e : Dev Cert.Kernel.nD,
        r.2.mem ((e.tc : Thread Cert.Kernel.nD Cert.Kernel.τ).loc Cert.Kernel.main_arg0) = m ((e.tc : Thread Cert.Kernel.nD Cert.Kernel.τ).loc Cert.Kernel.main_arg0)
        ∧ r.2.mem ((e.tc : Thread Cert.Kernel.nD Cert.Kernel.τ).loc Cert.Kernel.main_arg1) = m ((e.tc : Thread Cert.Kernel.nD Cert.Kernel.τ).loc Cert.Kernel.main_arg1))
      ∧ r.2.sem = fun _ => 0) := by
  obtain ⟨σ, hσ⟩ := holds_of_tableIs m ho h
  exact (θ_run Cert.Kernel.defs _ _).mono (fun _ hr => ⟨fun e => (hr.1 e).2, hr.2⟩) (run_main m ρ σ hσ)

/-- The frame of the program printed for the ideal instance. -/
theorem frame_ideal (m : (ℓ : Loc Cert.KernelIdeal.nD Cert.KernelIdeal.τ Cert.KernelIdeal.sig) → Buf (Elt F) ℓ)
    (ρ : Dev Cert.KernelIdeal.nD → PrngReg) {a b c d : BitVec 32} (ho : InOrder a b c d)
    (h : ∀ e : Dev Cert.Kernel.nD, tableIs (tbl m e) a b c d = fun _ => 1#1) :
    θ_run Cert.KernelIdeal.defs (onTc (τ := Cert.KernelIdeal.τ) (Cert.KernelIdeal.main (F := F))) ⟨m, fun _ => 0, ρ⟩ (fun r =>
      (∀ e : Dev Cert.KernelIdeal.nD,
        r.2.mem ((e.tc : Thread Cert.KernelIdeal.nD Cert.KernelIdeal.τ).loc Cert.KernelIdeal.main_arg0) = m ((e.tc : Thread Cert.KernelIdeal.nD Cert.KernelIdeal.τ).loc Cert.KernelIdeal.main_arg0)
        ∧ r.2.mem ((e.tc : Thread Cert.KernelIdeal.nD Cert.KernelIdeal.τ).loc Cert.KernelIdeal.main_arg1) = m ((e.tc : Thread Cert.KernelIdeal.nD Cert.KernelIdeal.τ).loc Cert.KernelIdeal.main_arg1))
      ∧ r.2.sem = fun _ => 0) := by
  obtain ⟨σ, hσ⟩ := holds_of_tableIs m ho h
  exact (θ_run Cert.KernelIdeal.defs _ _).mono (fun _ hr => ⟨fun e => (hr.1 e).2, hr.2⟩) (run_main_ideal m ρ σ hσ)

/-- The reference's frame, which takes nothing of its arguments. -/
theorem frame_reference (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ (fun r =>
      (∀ e : Dev Cert.ReferenceIdeal.nD,
        r.2.mem ((e.tc : Thread Cert.ReferenceIdeal.nD Cert.ReferenceIdeal.τ).loc Cert.ReferenceIdeal.main_arg0) = m ((e.tc : Thread Cert.ReferenceIdeal.nD Cert.ReferenceIdeal.τ).loc Cert.ReferenceIdeal.main_arg0)
        ∧ r.2.mem ((e.tc : Thread Cert.ReferenceIdeal.nD Cert.ReferenceIdeal.τ).loc Cert.ReferenceIdeal.main_arg1) = m ((e.tc : Thread Cert.ReferenceIdeal.nD Cert.ReferenceIdeal.τ).loc Cert.ReferenceIdeal.main_arg1))
      ∧ r.2.sem = fun _ => 0) :=
  (θ_run Cert.ReferenceIdeal.defs _ _).mono (fun r hr => ⟨fun e => (hr e).2, no_sem r.2⟩) (run_reference m ρ)

/-- The kernel's result on device `c` is block `c` of the reference's. -/
theorem value (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg)
    {a b c d : BitVec 32} (ho : InOrder a b c d) (h : ∀ e : Dev Cert.Kernel.nD, tableIs (tbl m e) a b c d = fun _ => 1#1)
    (hm : ∀ e : Dev Cert.KernelIdeal.nD,
      m ((e.tc : Thread Cert.KernelIdeal.nD Cert.KernelIdeal.τ).loc Cert.KernelIdeal.main_arg0) = Layout.block ⟨3, ![1, 512, 512]⟩ ⟨3, ![4, 512, 512]⟩ 0 4 e (m' (((0 : Dev Cert.ReferenceIdeal.nD).tc : Thread Cert.ReferenceIdeal.nD Cert.ReferenceIdeal.τ).loc Cert.ReferenceIdeal.main_arg0))
      ∧ m ((e.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ v : Buf (Elt F) (((0 : Dev Cert.ReferenceIdeal.nD).tc : Thread Cert.ReferenceIdeal.nD Cert.ReferenceIdeal.τ).loc Cert.ReferenceIdeal.main_v7),
      θ_run Cert.KernelIdeal.defs (onTc (τ := Cert.KernelIdeal.τ) (Cert.KernelIdeal.main (F := F))) ⟨m, fun _ => 0, ρ⟩ (fun r => ∀ e : Dev Cert.KernelIdeal.nD,
        r.2.mem ((e.tc : Thread Cert.KernelIdeal.nD Cert.KernelIdeal.τ).loc Cert.KernelIdeal.main_v1) = Layout.block ⟨3, ![1, 512, 512]⟩ ⟨3, ![4, 512, 512]⟩ 0 4 e v
        ∧ r.2.mem ((e.tc : Thread Cert.KernelIdeal.nD Cert.KernelIdeal.τ).loc Cert.KernelIdeal.main_arg0) = m ((e.tc : Thread Cert.KernelIdeal.nD Cert.KernelIdeal.τ).loc Cert.KernelIdeal.main_arg0)
        ∧ r.2.mem ((e.tc : Thread Cert.KernelIdeal.nD Cert.KernelIdeal.τ).loc Cert.KernelIdeal.main_arg1) = m ((e.tc : Thread Cert.KernelIdeal.nD Cert.KernelIdeal.τ).loc Cert.KernelIdeal.main_arg1))
      ∧ θ_run Cert.ReferenceIdeal.defs (onTc (τ := Cert.ReferenceIdeal.τ) (Cert.ReferenceIdeal.main (F := F))) ⟨m', fun _ => 0, ρ'⟩ (fun r =>
        r.2.mem (((0 : Dev Cert.ReferenceIdeal.nD).tc : Thread Cert.ReferenceIdeal.nD Cert.ReferenceIdeal.τ).loc Cert.ReferenceIdeal.main_v7) = v
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨σ, hσ⟩ := holds_of_tableIs m ho h
  refine ⟨result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r hr e => ⟨?_, (hr.1 e).2⟩) (run_main_ideal m ρ σ hσ),
    (θ_run Cert.ReferenceIdeal.defs _ _).mono (fun _ hr => hr 0) (run_reference m' ρ')⟩
  have hT : ∀ j : Fin 4, m' (((0 : Dev Cert.ReferenceIdeal.nD).tc : Thread Cert.ReferenceIdeal.nD Cert.ReferenceIdeal.τ).loc Cert.ReferenceIdeal.main_arg1) (at4 j)
      = BitVec.ofNat 32 (σ j).val := fun j => (congrFun (hm 0).2 (at4 j)).symm.trans (hσ 0 j)
  exact ((hr.1 e).1.trans (hm (σ.symm e)).1).trans (block_result σ _ _ hT e).symm

end Cert.KernelProof

end
-- ==== Proof.lean ====
/-
The proof of `Cert.Claim`. The claims are proved in `Proof/Claims.lean` for any table that lists the four devices in some
order; here each is taken at the numbers its precondition names.
-/
module

public import proofs.«01_k».proof.Defs
public import proofs.«01_k».proof.Proof.Claims

@[expose] public section

noncomputable section

namespace Cert.Proof

open Idealize.ShloMosaic Idealize.SL.Sem Cert.KernelProof

set_option maxHeartbeats 4000000 in
theorem claim : Cert.Claim := by
  repeat refine ⟨by first | infer_instance | exact ⟨slices 0, casts, slices 1, slices 2, slices 3⟩, ?_⟩
  repeat' apply And.intro
  all_goals
    first
    | exact fun m ρ h => frame_kernel m ρ (by decide) h
    | exact fun m ρ h => frame_ideal m ρ (by decide) h
    | exact fun m ρ _ => frame_reference m ρ
    | exact fun m ρ m' ρ' h hm => value m ρ m' ρ' (by decide) h hm
    | exact trivial

end Cert.Proof

end
